-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v30_1)) (v1 : (c : Dev Cert.Kernel3Ideal.nD) → Buf (Elt Ideal) ((c.tc : Thread Cert.Kernel3Ideal.nD Cert.Kernel3Ideal.τ).loc Cert.Kernel3Ideal.main_v30_2)) (v2 : (c : Dev Cert.Kernel3Ideal.nD) → Buf (Elt Ideal) ((c.tc : Thread Cert.Kernel3Ideal.nD Cert.Kernel3Ideal.τ).loc Cert.Kernel3Ideal.main_v30_3)) (v3 : (c : Dev Cert.Kernel3Ideal.nD) → Buf (Elt Ideal) ((c.tc : Thread Cert.Kernel3Ideal.nD Cert.Kernel3Ideal.τ).loc Cert.Kernel3Ideal.main_v30_4)) (v4 : (c : Dev Cert.Kernel3Ideal.nD) → Buf (Elt Ideal) ((c.tc : Thread Cert.Kernel3Ideal.nD Cert.Kernel3Ideal.τ).loc Cert.Kernel3Ideal.main_v30_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_1) = v0 c
          ∧ r.2.mem ((c.tc : Thread Cert.Kernel3Ideal.nD Cert.Kernel3Ideal.τ).loc Cert.Kernel3Ideal.main_v30_2) = v1 c
          ∧ r.2.mem ((c.tc : Thread Cert.Kernel3Ideal.nD Cert.Kernel3Ideal.τ).loc Cert.Kernel3Ideal.main_v30_3) = v2 c
          ∧ r.2.mem ((c.tc : Thread Cert.Kernel3Ideal.nD Cert.Kernel3Ideal.τ).loc Cert.Kernel3Ideal.main_v30_4) = v3 c
          ∧ r.2.mem ((c.tc : Thread Cert.Kernel3Ideal.nD Cert.Kernel3Ideal.τ).loc Cert.Kernel3Ideal.main_v30_5) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v77) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x1 : Shape := ⟨2, ![1, 1]⟩
abbrev S16x4096x512 : Shape := ⟨3, ![16, 4096, 512]⟩
abbrev S16x512x4096 : Shape := ⟨3, ![16, 512, 4096]⟩
abbrev S64 : Shape := ⟨1, ![64]⟩
abbrev S128 : Shape := ⟨1, ![128]⟩
abbrev S_ : Shape := ⟨0, ![]⟩

class Facts : Prop where
  bcast_S_S1x1 : S_.BroadcastsInDim S1x1 (![] : Fin 0 → Fin S1x1.rank)
  bcast_S_S16x4096x512 : S_.BroadcastsInDim S16x4096x512 (![] : Fin 0 → Fin S16x4096x512.rank)
  bcast_S_S16x512x4096 : S_.BroadcastsInDim S16x512x4096 (![] : Fin 0 → Fin S16x512x4096.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_v2 : IVec S1x1 1) (main_v5 : IVec S16x4096x512 1) (main_v8 : IVec S16x4096x512 1) (main_v11 : IVec S16x512x4096 1) (main_v14 : IVec S64 1) (main_v17 : IVec S64 1) : IVec S1x1 1 × IVec S16x4096x512 1 × IVec S16x4096x512 1 × IVec S16x512x4096 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  (main_v2, main_v5, main_v8, main_v11, main_v14, main_v17, main_v20, main_v23)

def fn {F : FTy → Type} [FloatOps F] (main_arg0 : FVec F S1x1 .f32) (main_arg1 : FVec F S16x4096x512 .bf16) (main_arg2 : FVec F S16x4096x512 .bf16) (main_arg3 : FVec F S16x512x4096 .bf16) (main_arg4 : FVec F S64 .f32) (main_arg5 : FVec F S64 .f32) (main_arg6 : FVec F S64 .f32) (main_arg7 : FVec F S64 .f32) (main_arg8 : FVec F S128 .f32) : IVec S1x1 1 × IVec S16x4096x512 1 × IVec S16x4096x512 1 × IVec S16x512x4096 1 × IVec S64 1 × IVec S64 1 × IVec S64 1 × IVec S64 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_v3 : FVec F S16x4096x512 .bf16 := Host.absf main_arg1
  let main_cst_0 : FVec F S_ .bf16 := constant S_ .bf16 0x7F80#16
  let main_v4 : FVec F S16x4096x512 .bf16 := broadcastInDim S16x4096x512 ![] bcast_S_S16x4096x512 main_cst_0
  let main_v5 : IVec S16x4096x512 1 := cmpf .olt main_v3 main_v4
  let main_v6 : FVec F S16x4096x512 .bf16 := Host.absf main_arg2
  let main_cst_1 : FVec F S_ .bf16 := constant S_ .bf16 0x7F80#16
  let main_v7 : FVec F S16x4096x512 .bf16 := broadcastInDim S16x4096x512 ![] bcast_S_S16x4096x512 main_cst_1
  let main_v8 : IVec S16x4096x512 1 := cmpf .olt main_v6 main_v7
  let main_v9 : FVec F S16x512x4096 .bf16 := Host.absf main_arg3
  let main_cst_2 : FVec F S_ .bf16 := constant S_ .bf16 0x7F80#16
  let main_v10 : FVec F S16x512x4096 .bf16 := broadcastInDim S16x512x4096 ![] bcast_S_S16x512x4096 main_cst_2
  let main_v11 : IVec S16x512x4096 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_v2 main_v5 main_v8 main_v11 main_v14 main_v17
-- ==== Kernel.lean ====
abbrev S1x1 : Shape := ⟨2, ![1, 1]⟩
abbrev S16x4096x512 : Shape := ⟨3, ![16, 4096, 512]⟩
abbrev S16x512x4096 : Shape := ⟨3, ![16, 512, 4096]⟩
abbrev S64 : Shape := ⟨1, ![64]⟩
abbrev S128 : Shape := ⟨1, ![128]⟩
abbrev S1x64 : Shape := ⟨2, ![1, 64]⟩
abbrev S128x1 : Shape := ⟨2, ![128, 1]⟩
abbrev S1x4096x128 : Shape := ⟨3, ![1, 4096, 128]⟩
abbrev S1x128x4096 : Shape := ⟨3, ![1, 128, 4096]⟩
abbrev S144x512 : Shape := ⟨2, ![144, 512]⟩
abbrev S1x1x64 : Shape := ⟨3, ![1, 1, 64]⟩
abbrev S1 : Shape := ⟨1, ![1]⟩
abbrev S1x1x1 : Shape := ⟨3, ![1, 1, 1]⟩
abbrev S1x128 : Shape := ⟨2, ![1, 128]⟩
abbrev S256x512 : Shape := ⟨2, ![256, 512]⟩
abbrev S16x256 : Shape := ⟨2, ![16, 256]⟩
abbrev S1x256x128 : Shape := ⟨3, ![1, 256, 128]⟩
abbrev S256x128 : Shape := ⟨2, ![256, 128]⟩
abbrev S512x128 : Shape := ⟨2, ![512, 128]⟩
abbrev S1x128x256 : Shape := ⟨3, ![1, 128, 256]⟩
abbrev S128x256 : Shape := ⟨2, ![128, 256]⟩
abbrev S144x256 : Shape := ⟨2, ![144, 256]⟩
abbrev S1x512 : Shape := ⟨2, ![1, 512]⟩
abbrev S1x256 : Shape := ⟨2, ![1, 256]⟩
abbrev S256 : Shape := ⟨1, ![256]⟩

abbrev nBuf : Space → Nat
  | .hbm => 15
  | .vmem => 17
  | .smem => 1
  | _ => 0

abbrev bufTy : (tb : Table) → Fin (tcTables nBuf tb) → BufTy
  | .hbm, ⟨0, _⟩ => ⟨S1x1, .f32⟩
  | .hbm, ⟨1, _⟩ => ⟨S16x4096x512, .bf16⟩
  | .hbm, ⟨2, _⟩ => ⟨S16x4096x512, .bf16⟩
  | .hbm, ⟨3, _⟩ => ⟨S16x512x4096, .bf16⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S128x1, .f32⟩
  | .hbm, ⟨14, _⟩ => ⟨S16x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x4096x128, .bf16⟩
  | .local _ .vmem, ⟨12, _⟩ => ⟨S1x4096x128, .bf16⟩
  | .local _ .vmem, ⟨13, _⟩ => ⟨S144x512, .f32⟩
  | .local _ .vmem, ⟨14, _⟩ => ⟨S144x512, .f32⟩
  | .local _ .vmem, ⟨15, _⟩ => ⟨S144x512, .f32⟩
  | .local _ .vmem, ⟨16, _⟩ => ⟨S144x512, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x1 : Shape := ⟨2, ![1, 1]⟩
abbrev S16x4096x512 : Shape := ⟨3, ![16, 4096, 512]⟩
abbrev S16x512x4096 : Shape := ⟨3, ![16, 512, 4096]⟩
abbrev S64 : Shape := ⟨1, ![64]⟩
abbrev S128 : Shape := ⟨1, ![128]⟩
abbrev S16x4096x4x2x64 : Shape := ⟨5, ![16, 4096, 4, 2, 64]⟩
abbrev S16x4x4096x2x64 : Shape := ⟨5, ![16, 4, 4096, 2, 64]⟩
abbrev S16x4x128x4096 : Shape := ⟨4, ![16, 4, 128, 4096]⟩
abbrev S16x4x4096x128 : Shape := ⟨4, ![16, 4, 4096, 128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x2x4096x4096 : Shape := ⟨5, ![16, 4, 2, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x4096 : Shape := ⟨3, ![16, 4, 4096]⟩
abbrev S16x4x4096x1 : Shape := ⟨4, ![16, 4, 4096, 1]⟩
abbrev S1x1x1x128 : Shape := ⟨4, ![1, 1, 1, 128]⟩
abbrev S16x4096x4x128 : Shape := ⟨4, ![16, 4096, 4, 128]⟩

abbrev nBuf : Space → Nat
  | .hbm => 107
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S16x4096x512, .bf16⟩
  | .hbm, ⟨2, _⟩ => ⟨S16x4096x512, .bf16⟩
  | .hbm, ⟨3, _⟩ => ⟨S16x512x4096, .bf16⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S16x4096x512, .f32⟩
  | .hbm, ⟨10, _⟩ => ⟨S16x4096x4x2x64, .f32⟩
  | .hbm, ⟨11, _⟩ => ⟨S16x4x4096x2x64, .f32⟩
  | .hbm, ⟨12, _⟩ => ⟨S16x4096x512, .f32⟩
  | .hbm, ⟨13, _⟩ => ⟨S16x4096x4x2x64, .f32⟩
  | .hbm, ⟨14, _⟩ => ⟨S16x4x4096x2x64, .f32⟩
  | .hbm, ⟨15, _⟩ => ⟨S16x512x4096, .f32⟩
  | .hbm, ⟨16, _⟩ => ⟨S16x4x128x4096, .f32⟩
  | .hbm, ⟨17, _⟩ => ⟨S16x4x4096x128, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .i32⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S1x4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S16x4x2x4096x4096, .f32⟩
  | .hbm, ⟨54, _⟩ => ⟨S_, .f32⟩
  | .hbm, ⟨55, _⟩ => ⟨S_, .f32⟩
  | .hbm, ⟨56, _⟩ => ⟨S16x4x2x4096x4096, .f32⟩
  | .hbm, ⟨57, _⟩ => ⟨S16x4x2x4096x4096, .f32⟩
  | .hbm, ⟨58, _⟩ => ⟨S_, .f32⟩
  | .hbm, ⟨59, _⟩ => ⟨S_, .f32⟩
  | .hbm, ⟨60, _⟩ => ⟨S16x4x2x4096x4096, .i1⟩
  | .hbm, ⟨61, _⟩ => ⟨S16x4x2x4096x4096, .f32⟩
  | .hbm, ⟨62, _⟩ => ⟨S16x4x2x4096x4096, .f32⟩
  | .hbm, ⟨63, _⟩ => ⟨S_, .f32⟩
  | .hbm, ⟨64, _⟩ => ⟨S16x4x2x4096, .f32⟩
  | .hbm, ⟨65, _⟩ => ⟨S_, .f32⟩
  | .hbm, ⟨66, _⟩ => ⟨S16x4x2x4096, .f32⟩
  | .hbm, ⟨67, _⟩ => ⟨S16x4x2x4096, .f32⟩
  | .hbm, ⟨68, _⟩ => ⟨S16x4x2x4096x1, .f32⟩
  | .hbm, ⟨69, _⟩ => ⟨S16x4x2x4096x4096, .f32⟩
  | .hbm, ⟨70, _⟩ => ⟨S16x4x2x4096x4096, .f32⟩
  | .hbm, ⟨71, _⟩ => ⟨S16x4x2x4096x4096, .f32⟩
  | .hbm, ⟨72, _⟩ => ⟨S_, .f32⟩
  | .hbm, ⟨73, _⟩ => ⟨S16x4x2x4096, .f32⟩
  | .hbm, ⟨74, _⟩ => ⟨S16x4x2x4096x1, .f32⟩
  | .hbm, ⟨75, _⟩ => ⟨S16x4x2x4096x4096, .f32⟩
  | .hbm, ⟨76, _⟩ => ⟨S16x4x2x4096x4096, .f32⟩
  | .hbm, ⟨77, _⟩ => ⟨S16x4x1x4096x4096, .f32⟩
  | .hbm, ⟨78, _⟩ => ⟨S16x4x4096x4096, .f32⟩
  | .hbm, ⟨79, _⟩ => ⟨S16x4x1x4096x4096, .f32⟩
  | .hbm, ⟨80, _⟩ => ⟨S16x4x4096x4096, .f32⟩
  | .hbm, ⟨81, _⟩ => ⟨S16x4x4096x4096, .f32⟩
  | .hbm, ⟨82, _⟩ => ⟨S16x4x4096x4096, .f32⟩
  | .hbm, ⟨83, _⟩ => ⟨S16x4x4096x4096, .f32⟩
  | .hbm, ⟨84, _⟩ => ⟨S16x4x4096x128, .f32⟩
  | .hbm, ⟨85, _⟩ => ⟨S16x4x4096x128, .f32⟩
  | .hbm, ⟨86, _⟩ => ⟨S_, .f32⟩
  | .hbm, ⟨87, _⟩ => ⟨S16x4x4096, .f32⟩
  | .hbm, ⟨88, _⟩ => ⟨S16x4x4096x1, .f32⟩
  | .hbm, ⟨89, _⟩ => ⟨S_, .f32⟩
  | .hbm, ⟨90, _⟩ => ⟨S16x4x4096x1, .f32⟩
  | .hbm, ⟨91, _⟩ => ⟨S16x4x4096x1, .f32⟩
  | .hbm, ⟨92, _⟩ => ⟨S_, .f32⟩
  | .hbm, ⟨93, _⟩ => ⟨S16x4x4096x1, .f32⟩
  | .hbm, ⟨94, _⟩ => ⟨S16x4x4096x1, .f32⟩
  | .hbm, ⟨95, _⟩ => ⟨S16x4x4096x1, .f32⟩
  | .hbm, ⟨96, _⟩ => ⟨S16x4x4096x128, .f32⟩
  | .hbm, ⟨97, _⟩ => ⟨S16x4x4096x128, .f32⟩
  | .hbm, ⟨98, _⟩ => ⟨S1x1x1x128, .f32⟩
  | .hbm, ⟨99, _⟩ => ⟨S16x4x4096x128, .f32⟩
  | .hbm, ⟨100, _⟩ => ⟨S16x4x4096x128, .f32⟩
  | .hbm, ⟨101, _⟩ => ⟨S_, .f32⟩
  | .hbm, ⟨102, _⟩ => ⟨S16x4x4096x128, .f32⟩
  | .hbm, ⟨103, _⟩ => ⟨S16x4x4096x128, .f32⟩
  | .hbm, ⟨104, _⟩ => ⟨S16x4096x4x128, .f32⟩
  | .hbm, ⟨105, _⟩ => ⟨S16x4096x512, .f32⟩
  | .hbm, ⟨106, _⟩ => ⟨S16x4096x512, .bf16⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_10 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S16x6x1024 : Shape := ⟨3, ![16, 6, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S1x6x1024 : Shape := ⟨3, ![1, 6, 1024]⟩
abbrev S6x1024 : Shape := ⟨2, ![6, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 19
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x1024, .bf16⟩
  | .hbm, ⟨4, _⟩ => ⟨S16x4096x1024, .bf16⟩
  | .hbm, ⟨5, _⟩ => ⟨S16x6x1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S1x1024, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1024x5632, .bf16⟩
  | .hbm, ⟨17, _⟩ => ⟨S2816x1024, .bf16⟩
  | .hbm, ⟨18, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x5632, .bf16⟩
  | .local _ .vmem, ⟨17, _⟩ => ⟨S2816x1024, .bf16⟩
  | .local _ .vmem, ⟨18, _⟩ => ⟨S1x512x1024, .f32⟩
  | .local _ .vmem, ⟨19, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S16x6x1024 : Shape := ⟨3, ![16, 6, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x1024, .bf16⟩
  | .hbm, ⟨4, _⟩ => ⟨S16x4096x1024, .bf16⟩
  | .hbm, ⟨5, _⟩ => ⟨S16x6x1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x4096x512, .f32⟩
  | .hbm, ⟨17, _⟩ => ⟨S16x4096x1024, .f32⟩
  | .hbm, ⟨18, _⟩ => ⟨S16x4096x512, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S_, .f32⟩
  | .hbm, ⟨37, _⟩ => ⟨S16x4096x1, .f32⟩
  | .hbm, ⟨38, _⟩ => ⟨S16x4096x1, .f32⟩
  | .hbm, ⟨39, _⟩ => ⟨S16x4096x1, .f32⟩
  | .hbm, ⟨40, _⟩ => ⟨S16x4096x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x1x1024, .f32⟩
  | .hbm, ⟨47, _⟩ => ⟨S16x1x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x5632, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S_, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x6x1024 : Shape := ⟨3, ![16, 6, 1024]⟩
abbrev S1024 : Shape := ⟨1, ![1024]⟩
abbrev S1024x5136 : Shape := ⟨2, ![1024, 5136]⟩
abbrev S16x256 : Shape := ⟨2, ![16, 256]⟩
abbrev S256 : Shape := ⟨1, ![256]⟩
abbrev S64 : Shape := ⟨1, ![64]⟩
abbrev S128 : Shape := ⟨1, ![128]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x3072 : Shape := ⟨2, ![1024, 3072]⟩
abbrev S1024x5248 : Shape := ⟨2, ![1024, 5248]⟩
abbrev S112x256 : Shape := ⟨2, ![112, 256]⟩
abbrev S128x256 : Shape := ⟨2, ![128, 256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x128 : Shape := ⟨2, ![1, 128]⟩
abbrev S16x4096x512 : Shape := ⟨3, ![16, 4096, 512]⟩
abbrev S16x512x4096 : Shape := ⟨3, ![16, 512, 4096]⟩
abbrev S1x512x1024 : Shape := ⟨3, ![1, 512, 1024]⟩
abbrev S1x6x1024 : Shape := ⟨3, ![1, 6, 1024]⟩
abbrev S1x512x512 : Shape := ⟨3, ![1, 512, 512]⟩
abbrev S6x1024 : Shape := ⟨2, ![6, 1024]⟩
abbrev S1x256x1024 : Shape := ⟨3, ![1, 256, 1024]⟩
abbrev S256x1024 : Shape := ⟨2, ![256, 1024]⟩
abbrev S1024x640 : Shape := ⟨2, ![1024, 640]⟩
abbrev S256x640 : Shape := ⟨2, ![256, 640]⟩
abbrev S512x640 : Shape := ⟨2, ![512, 640]⟩
abbrev S512x512 : Shape := ⟨2, ![512, 512]⟩
abbrev S512x128 : Shape := ⟨2, ![512, 128]⟩
abbrev S512x1024 : Shape := ⟨2, ![512, 1024]⟩
abbrev S1024x256 : Shape := ⟨2, ![1024, 256]⟩
abbrev S512x256 : Shape := ⟨2, ![512, 256]⟩
abbrev S256x512 : Shape := ⟨2, ![256, 512]⟩
abbrev S64x256 : Shape := ⟨2, ![64, 256]⟩
abbrev S1x512x256 : Shape := ⟨3, ![1, 512, 256]⟩
abbrev S64x512 : Shape := ⟨2, ![64, 512]⟩
abbrev S64x128 : Shape := ⟨2, ![64, 128]⟩
abbrev S256x128 : Shape := ⟨2, ![256, 128]⟩
abbrev S1x256x128 : Shape := ⟨3, ![1, 256, 128]⟩

abbrev nBuf : Space → Nat
  | .hbm => 68
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x5136, .f32⟩
  | .hbm, ⟨4, _⟩ => ⟨S16x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1024x5136, .bf16⟩
  | .hbm, ⟨10, _⟩ => ⟨S1024x1536, .bf16⟩
  | .hbm, ⟨11, _⟩ => ⟨S1024x512, .bf16⟩
  | .hbm, ⟨12, _⟩ => ⟨S1024x16, .bf16⟩
  | .hbm, ⟨13, _⟩ => ⟨S_, .bf16⟩
  | .hbm, ⟨14, _⟩ => ⟨S1024x112, .bf16⟩
  | .hbm, ⟨15, _⟩ => ⟨S1024x3072, .bf16⟩
  | .hbm, ⟨16, _⟩ => ⟨S1024x5248, .bf16⟩
  | .hbm, ⟨17, _⟩ => ⟨S_, .f32⟩
  | .hbm, ⟨18, _⟩ => ⟨S112x256, .f32⟩
  | .hbm, ⟨19, _⟩ => ⟨S128x256, .f32⟩
  | .hbm, ⟨20, _⟩ => ⟨S128x256, .bf16⟩
  | .hbm, ⟨21, _⟩ => ⟨S256, .i32⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S_, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .bf16⟩
  | .hbm, ⟨51, _⟩ => ⟨S1x1024, .f32⟩
  | .hbm, ⟨52, _⟩ => ⟨S1x256, .f32⟩
  | .hbm, ⟨53, _⟩ => ⟨S1x64, .f32⟩
  | .hbm, ⟨54, _⟩ => ⟨S8x64, .f32⟩
  | .hbm, ⟨55, _⟩ => ⟨S512, .f32⟩
  | .hbm, ⟨56, _⟩ => ⟨S1x512, .f32⟩
  | .hbm, ⟨57, _⟩ => ⟨S1x64, .f32⟩
  | .hbm, ⟨58, _⟩ => ⟨S8x64, .f32⟩
  | .hbm, ⟨59, _⟩ => ⟨S512, .f32⟩
  | .hbm, ⟨60, _⟩ => ⟨S1x512, .f32⟩
  | .hbm, ⟨61, _⟩ => ⟨S1x128, .f32⟩
  | .hbm, ⟨62, _⟩ => ⟨S16x4096x512, .bf16⟩
  | .hbm, ⟨63, _⟩ => ⟨S16x4096x512, .bf16⟩
  | .hbm, ⟨64, _⟩ => ⟨S16x4096x512, .bf16⟩
  | .hbm, ⟨65, _⟩ => ⟨S16x512x4096, .bf16⟩
  | .hbm, ⟨66, _⟩ => ⟨S16x4096x1024, .bf16⟩
  | .hbm, ⟨67, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5248, .bf16⟩
  | .local _ .vmem, ⟨6, _⟩ => ⟨S128x256, .bf16⟩
  | .local _ .vmem, ⟨7, _⟩ => ⟨S1x256, .f32⟩
  | .local _ .vmem, ⟨8, _⟩ => ⟨S256x256, .bf16⟩
  | .local _ .vmem, ⟨9, _⟩ => ⟨S1x512, .f32⟩
  | .local _ .vmem, ⟨10, _⟩ => ⟨S1x512, .f32⟩
  | .local _ .vmem, ⟨11, _⟩ => ⟨S1x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S128x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30_0 : Ref sig .tc := ⟨.hbm, 62, rfl⟩
abbrev main_v30_1 : Ref sig .tc := ⟨.hbm, 63, rfl⟩
abbrev main_v30_2 : Ref sig .tc := ⟨.hbm, 64, rfl⟩
abbrev main_v30_3 : Ref sig .tc := ⟨.hbm, 65, rfl⟩
abbrev main_v30_4 : Ref sig .tc := ⟨.hbm, 66, rfl⟩
abbrev main_v30_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S16x4096x1024 : Shape := ⟨3, ![16, 4096, 1024]⟩
abbrev S16x6x1024 : Shape := ⟨3, ![16, 6, 1024]⟩
abbrev S1024 : Shape := ⟨1, ![1024]⟩
abbrev S1024x5136 : Shape := ⟨2, ![1024, 5136]⟩
abbrev S16x256 : Shape := ⟨2, ![16, 256]⟩
abbrev S256 : Shape := ⟨1, ![256]⟩
abbrev S64 : Shape := ⟨1, ![64]⟩
abbrev S128 : Shape := ⟨1, ![128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x5136 : Shape := ⟨3, ![16, 4096, 5136]⟩
abbrev S16x4096x3584 : Shape := ⟨3, ![16, 4096, 3584]⟩
abbrev S16x4096x512 : Shape := ⟨3, ![16, 4096, 512]⟩
abbrev S16x4096x8x64 : Shape := ⟨4, ![16, 4096, 8, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x512x4096 : Shape := ⟨3, ![16, 512, 4096]⟩

abbrev nBuf : Space → Nat
  | .hbm => 102
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x5136, .f32⟩
  | .hbm, ⟨4, _⟩ => ⟨S16x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x4096x5136, .f32⟩
  | .hbm, ⟨35, _⟩ => ⟨S16x4096x3584, .f32⟩
  | .hbm, ⟨36, _⟩ => ⟨S16x4096x512, .f32⟩
  | .hbm, ⟨37, _⟩ => ⟨S16x4096x512, .f32⟩
  | .hbm, ⟨38, _⟩ => ⟨S16x4096x512, .f32⟩
  | .hbm, ⟨39, _⟩ => ⟨S16x4096x1024, .f32⟩
  | .hbm, ⟨40, _⟩ => ⟨S16x4096x1024, .f32⟩
  | .hbm, ⟨41, _⟩ => ⟨S16x4096x8x64, .f32⟩
  | .hbm, ⟨42, _⟩ => ⟨S16x4096x8x64, .f32⟩
  | .hbm, ⟨43, _⟩ => ⟨S_, .f32⟩
  | .hbm, ⟨44, _⟩ => ⟨S16x4096x8, .f32⟩
  | .hbm, ⟨45, _⟩ => ⟨S16x4096x8x1, .f32⟩
  | .hbm, ⟨46, _⟩ => ⟨S_, .f32⟩
  | .hbm, ⟨47, _⟩ => ⟨S16x4096x8x1, .f32⟩
  | .hbm, ⟨48, _⟩ => ⟨S16x4096x8x1, .f32⟩
  | .hbm, ⟨49, _⟩ => ⟨S_, .f32⟩
  | .hbm, ⟨50, _⟩ => ⟨S16x4096x8x1, .f32⟩
  | .hbm, ⟨51, _⟩ => ⟨S16x4096x8x1, .f32⟩
  | .hbm, ⟨52, _⟩ => ⟨S16x4096x8x1, .f32⟩
  | .hbm, ⟨53, _⟩ => ⟨S16x4096x8x64, .f32⟩
  | .hbm, ⟨54, _⟩ => ⟨S16x4096x8x64, .f32⟩
  | .hbm, ⟨55, _⟩ => ⟨S1x1x1x64, .f32⟩
  | .hbm, ⟨56, _⟩ => ⟨S16x4096x8x64, .f32⟩
  | .hbm, ⟨57, _⟩ => ⟨S16x4096x8x64, .f32⟩
  | .hbm, ⟨58, _⟩ => ⟨S16x4096x512, .f32⟩
  | .hbm, ⟨59, _⟩ => ⟨S_, .f32⟩
  | .hbm, ⟨60, _⟩ => ⟨S16x4096x512, .f32⟩
  | .hbm, ⟨61, _⟩ => ⟨S16x4096x512, .f32⟩
  | .hbm, ⟨62, _⟩ => ⟨S16x4096x8x64, .f32⟩
  | .hbm, ⟨63, _⟩ => ⟨S16x4096x8x64, .f32⟩
  | .hbm, ⟨64, _⟩ => ⟨S_, .f32⟩
  | .hbm, ⟨65, _⟩ => ⟨S16x4096x8, .f32⟩
  | .hbm, ⟨66, _⟩ => ⟨S16x4096x8x1, .f32⟩
  | .hbm, ⟨67, _⟩ => ⟨S_, .f32⟩
  | .hbm, ⟨68, _⟩ => ⟨S16x4096x8x1, .f32⟩
  | .hbm, ⟨69, _⟩ => ⟨S16x4096x8x1, .f32⟩
  | .hbm, ⟨70, _⟩ => ⟨S_, .f32⟩
  | .hbm, ⟨71, _⟩ => ⟨S16x4096x8x1, .f32⟩
  | .hbm, ⟨72, _⟩ => ⟨S16x4096x8x1, .f32⟩
  | .hbm, ⟨73, _⟩ => ⟨S16x4096x8x1, .f32⟩
  | .hbm, ⟨74, _⟩ => ⟨S16x4096x8x64, .f32⟩
  | .hbm, ⟨75, _⟩ => ⟨S16x4096x8x64, .f32⟩
  | .hbm, ⟨76, _⟩ => ⟨S1x1x1x64, .f32⟩
  | .hbm, ⟨77, _⟩ => ⟨S16x4096x8x64, .f32⟩
  | .hbm, ⟨78, _⟩ => ⟨S16x4096x8x64, .f32⟩
  | .hbm, ⟨79, _⟩ => ⟨S16x4096x512, .f32⟩
  | .hbm, ⟨80, _⟩ => ⟨S16x512x4096, .f32⟩
  | .hbm, ⟨81, _⟩ => ⟨S16x4096x1024, .f32⟩
  | .hbm, ⟨82, _⟩ => ⟨S16x4096x1024, .f32⟩
  | .hbm, ⟨83, _⟩ => ⟨S_, .f32⟩
  | .hbm, ⟨84, _⟩ => ⟨S16x4096x1024, .f32⟩
  | .hbm, ⟨85, _⟩ => ⟨S16x4096x1024, .f32⟩
  | .hbm, ⟨86, _⟩ => ⟨S_, .f32⟩
  | .hbm, ⟨87, _⟩ => ⟨S16x4096x1024, .f32⟩
  | .hbm, ⟨88, _⟩ => ⟨S16x4096x1024, .f32⟩
  | .hbm, ⟨89, _⟩ => ⟨S16x4096x1024, .f32⟩
  | .hbm, ⟨90, _⟩ => ⟨S16x4096x1024, .f32⟩
  | .hbm, ⟨91, _⟩ => ⟨S_, .f32⟩
  | .hbm, ⟨92, _⟩ => ⟨S16x4096x1024, .f32⟩
  | .hbm, ⟨93, _⟩ => ⟨S16x4096x1024, .f32⟩
  | .hbm, ⟨94, _⟩ => ⟨S_, .f32⟩
  | .hbm, ⟨95, _⟩ => ⟨S16x4096x1024, .f32⟩
  | .hbm, ⟨96, _⟩ => ⟨S16x4096x1024, .f32⟩
  | .hbm, ⟨97, _⟩ => ⟨S16x4096x512, .bf16⟩
  | .hbm, ⟨98, _⟩ => ⟨S16x4096x512, .bf16⟩
  | .hbm, ⟨99, _⟩ => ⟨S16x512x4096, .bf16⟩
  | .hbm, ⟨100, _⟩ => ⟨S16x4096x1024, .bf16⟩
  | .hbm, ⟨101, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.KernelTerm.lean ====
/- What one grid point of the attention kernel stores, written once: the scores of a block of keys against a block of
   queries, one accumulation step, the chain of steps of a block of queries, and its normalised result. The run's stored
   pieces are the sixteen blocks of this description. -/
module

public import proofs.«01_k».proof.Proof.Gen.KernelIdeal.Value

@[expose] public section

set_option maxRecDepth 16384

noncomputable section

namespace Cert.Proof.Ker

open Cert.KernelIdeal Idealize.ShloMosaic Idealize.ShloMosaic.TcCoe Idealize.SL.Sem
open Cert.KernelIdeal.Facts₀ Cert.KernelIdeal.Facts

variable {F : FTy → Type} [FloatOps F] [Named F]

/-- The lanes of the first half of a head. -/
def firstHalf : IVec S1x128 1 := cmpi .slt (iota .tc S1x128 32 [1] iota_S1x128_d1_w32) (broadcast S1x128 64#32)

/-- Floor division of a vector of words by 64, as printed. -/
def chunkOf (v : IVec S256x512 32) : IVec S256x512 32 :=
  select (andi (cmpi .ne (subi (extui 32 (cmpi .sgt v (broadcast S256x512 0#32)) natLt_1_32) (extui 32 (cmpi .slt v (broadcast S256x512 0#32)) natLt_1_32)) (broadcast S256x512 1#32))
      (cmpi .ne (remsi v (broadcast S256x512 64#32)) (broadcast S256x512 0#32)))
    (subi (divsi v (broadcast S256x512 64#32)) (broadcast S256x512 1#32)) (divsi v (broadcast S256x512 64#32))

/-- The query of a column of scores (both halves of a head lie side by side), as printed. -/
def queryIx : IVec S256x512 32 :=
  select (andi (xori (cmpi .slt (remsi (iota .tc S256x512 32 [1] iota_S256x512_d1_w32) (broadcast S256x512 256#32)) (broadcast S256x512 0#32))
        (broadcastTo S256x512 (broadcast S256x512 0#1) broadcasts_S256x512_S256x512))
      (cmpi .ne (remsi (iota .tc S256x512 32 [1] iota_S256x512_d1_w32) (broadcast S256x512 256#32)) (broadcast S256x512 0#32)))
    (addi (remsi (iota .tc S256x512 32 [1] iota_S256x512_d1_w32) (broadcast S256x512 256#32)) (broadcast S256x512 256#32))
    (remsi (iota .tc S256x512 32 [1] iota_S256x512_d1_w32) (broadcast S256x512 256#32))

/-- Which key a query sees within the block on the diagonal. -/
def visible : IVec S256x512 1 := cmpi .sle (chunkOf (iota .tc S256x512 32 [0] iota_S256x512_d0_w32)) (chunkOf queryIx)

/-- The two halves of a block of queries, stacked, each with the other half's lanes zero. -/
def stacked (q : FVec F S256x128 .bf16) : FVec F S512x128 .bf16 :=
  concatenate S512x128 0
    [⟨S256x128, select (broadcastTo S256x128 (shapeCast S1x128 firstHalf shapeCasts_S1x128_S1x128) broadcasts_S1x128_S256x128) q (broadcast S256x128 (Scalar.ofBits .bf16 0x0000#16))⟩,
     ⟨S256x128, select (broadcastTo S256x128 (shapeCast S1x128 firstHalf shapeCasts_S1x128_S1x128) broadcasts_S1x128_S256x128) (broadcast S256x128 (Scalar.ofBits .bf16 0x0000#16)) q⟩]
    concatenates_S256x128_S256x128_S512x128_d0

/-- The scores of a block of keys against a block of queries. -/
def rawScore (k q : FVec F S256x128 .bf16) : FVec F S256x512 .f32 :=
  matmul dot_S256x128_S512x128_S256x512_1_1_0_0_n_n none k (stacked q) (constant S256x512 .f32 0x00000000#32)

/-- The same on the diagonal: keys of later chunks are masked. -/
def diagScore (k q : FVec F S256x128 .bf16) : FVec F S256x512 .f32 :=
  select visible (rawScore k q) (broadcast S256x512 (Named.named κ "mask" 0xF149F2CA#32))

/-- A block of values over sixteen rows of ones. -/
def valueRows (v : FVec F S128x256 .bf16) : FVec F S144x256 .bf16 :=
  concatenate S144x256 0 [⟨S128x256, v⟩, ⟨S16x256, broadcast S16x256 (Scalar.ofBits .bf16 0x3F80#16)⟩] concatenates_S128x256_S16x256_S144x256_d0

/-- One accumulation step. -/
def step (bnd : F .f32) (v : FVec F S128x256 .bf16) (s : FVec F S256x512 .f32) (acc : FVec F S144x512 .f32) : FVec F S144x512 .f32 :=
  shapeCast S144x512 (addf acc (matmul dot_S144x256_S256x512_S144x512_1_0_0_1_n_n none (valueRows v)
    (truncf .bf16 (exp2 (subf s (broadcast S256x512 bnd))) bitsLt_bf16_f32) (constant S144x512 .f32 0x00000000#32))) shapeCasts_S144x512_S144x512

/-- The accumulator at the start. -/
def zeros : FVec F S144x512 .f32 := shapeCast S144x512 (broadcast S144x512 (Scalar.ofBits .f32 0x00000000#32)) shapeCasts_S144x512_S144x512

/-- The reciprocals of the two halves' sums. -/
def inverse (acc : FVec F S144x512 .f32) : FVec F S1x512 .f32 :=
  divf (broadcast S1x512 (Scalar.ofBits .f32 0x3F800000#32)) (extractStridedSlice S1x512 ![128, 0] acc slices_S144x512_o128_0_S1x512)

/-- The difference of the two halves' attention outputs. -/
def difference (l : F .f32) (acc : FVec F S144x512 .f32) : FVec F S128x256 .f32 :=
  subf (mulf (extractStridedSlice S128x256 ![0, 0] acc slices_S144x512_o0_0_S128x256)
      (broadcastTo S128x256 (extractStridedSlice S1x256 ![0, 0] (inverse acc) slices_S1x512_o0_0_S1x256) broadcasts_S1x256_S128x256))
    (mulf (extractStridedSlice S128x256 ![0, 256] acc slices_S144x512_o0_256_S128x256)
      (broadcastTo S128x256 (mulf (broadcast S1x256 l) (extractStridedSlice S1x256 ![0, 256] (inverse acc) slices_S1x512_o0_256_S1x256)) broadcasts_S1x256_S128x256))

/-- The normalised block, transposed back to rows of queries. -/
def normed (d : FVec F S128x256 .f32) (g : FVec F S128x1 .f32) : FVec F S1x256x128 .bf16 :=
  shapeCast S1x256x128 (truncf .bf16 (transpose S256x128 [1, 0]
    (mulf (mulf (mulf d (broadcastTo S128x256 (rsqrt (addf (divf (shapeCast S1x256 (multiReduction .add [0] S256 (mulf d d) 0x00000000#32 reduces_S128x256_S256 (.inl rfl) rfl) shapeCasts_S256_S1x256)
        (broadcast S1x256 (Scalar.ofBits .f32 0x43000000#32))) (broadcast S1x256 (Scalar.ofBits .f32 0x358637BD#32)))) broadcasts_S1x256_S128x256))
      (broadcastTo S128x256 (shapeCast S128x1 g shapeCasts_S128x1_S128x1) broadcasts_S128x1_S128x256))
      (broadcast S128x256 (Scalar.ofBits .f32 0x3F4CCCCD#32))) transposes_S128x256_p1_0_S256x128) bitsLt_bf16_f32) shapeCasts_S256x128_S1x256x128

/-- The weight of the second half. -/
def lam (a b c d : FVec F S1x64 .f32) : F .f32 :=
  Scalar.addf (Scalar.subf
    (Scalar.exp (extractAt ![0, 0, 0] (shapeCast S1x1x1 (multiReduction .add [1, 2] S1 (shapeCast S1x1x64 (mulf (shapeCast S1x64 a shapeCasts_S1x64_S1x64) (shapeCast S1x64 b shapeCasts_S1x64_S1x64)) shapeCasts_S1x64_S1x1x64)
      0x00000000#32 reduces_S1x1x64_S1 (.inl rfl) rfl) shapeCasts_S1_S1x1x1) inpos_S1x1x1_p0_0_0))
    (Scalar.exp (extractAt ![0, 0, 0] (shapeCast S1x1x1 (multiReduction .add [1, 2] S1 (shapeCast S1x1x64 (mulf (shapeCast S1x64 c shapeCasts_S1x64_S1x64) (shapeCast S1x64 d shapeCasts_S1x64_S1x64)) shapeCasts_S1x64_S1x1x64)
      0x00000000#32 reduces_S1x1x64_S1 (.inl rfl) rfl) shapeCasts_S1_S1x1x1) inpos_S1x1x1_p0_0_0)))
    (Scalar.ofBits .f32 0x3E4CCCCD#32)

/-! ## The blocks of a grid point -/

theorem inbRow (j : ℕ) : ∀ a, (![0, 256 * (j % 16), 0] : Fin 3 → ℕ) a + S1x256x128.size a ≤ S1x4096x128.size a := by
  have := Nat.mod_lt j (show 0 < 16 by decide)
  intro a
  fin_cases a <;> simp [S1x256x128, S1x4096x128] <;> omega

theorem inbCol (j : ℕ) : ∀ a, (![0, 0, 256 * (j % 16)] : Fin 3 → ℕ) a + S1x128x256.size a ≤ S1x128x4096.size a := by
  have := Nat.mod_lt j (show 0 < 16 by decide)
  intro a
  fin_cases a <;> simp [S1x128x256, S1x128x4096] <;> omega

theorem inbAcc : ∀ a, (![0, 0] : Fin 2 → ℕ) a + S144x512.size a ≤ S144x512.size a := by decide

/-- Rows `256 j …` of a staged block. -/
abbrev rowRect (j : ℕ) : Rect S1x4096x128 := Rect.unit ![0, 256 * (j % 16), 0] S1x256x128.size (inbRow j)

/-- Columns `256 j …` of a staged block of values. -/
abbrev colRect (j : ℕ) : Rect S1x128x4096 := Rect.unit ![0, 0, 256 * (j % 16)] S1x128x256.size (inbCol j)

/-- The whole accumulator. -/
abbrev accRect : Rect S144x512 := Rect.unit ![0, 0] S144x512.size inbAcc

/-- What a grid point reads: the bound, its queries, keys and values, the weight of the second half and the gain. -/
structure Ins (F : FTy → Type) where
  bnd : F .f32
  q : ℕ → FVec F S256x128 .bf16
  k : ℕ → FVec F S256x128 .bf16
  v : ℕ → FVec F S128x256 .bf16
  l : F .f32
  g : FVec F S128x1 .f32

/-- The scores of key block `j` against query block `n`. -/
def Ins.score (I : Ins F) (n j : ℕ) : FVec F S256x512 .f32 :=
  match n - j with
  | 0 => diagScore (I.k j) (I.q n)
  | _ + 1 => rawScore (I.k j) (I.q n)

/-- The stores into an accumulator, last first, over what was stored before, as query block `n` absorbs its first `j` key blocks. -/
def Ins.stores (I : Ins F) {σ : RefSig} (v : View σ .tc .vmem S144x512 .f32) (L : List (View.Piece (Elt F) S144x512 .f32)) (n : ℕ) : ℕ → List (View.Piece (Elt F) S144x512 .f32)
  | 0 => ⟨accRect, zeros⟩ :: L
  | j + 1 => ⟨accRect, step I.bnd (I.v j) (I.score n j) (v.readCov (I.stores v L n j) accRect.toLoadRect)⟩ :: I.stores v L n j

/-- The stores into accumulator `c` before its query block number `i`. -/
def Ins.before (I : Ins F) {σ : RefSig} (v : View σ .tc .vmem S144x512 .f32) (c : ℕ) : ℕ → List (View.Piece (Elt F) S144x512 .f32)
  | 0 => []
  | i + 1 => I.stores v (I.before v c i) (4 * i + c) (4 * i + c + 1)

/-- The accumulator of query block `n` after its first `j` key blocks. -/
def Ins.acc (I : Ins F) (n : ℕ) : ℕ → FVec F S144x512 .f32
  | 0 => zeros
  | j + 1 => step I.bnd (I.v j) (I.score n j) (I.acc n j)

theorem Ins.readCov_stores (I : Ins F) {σ : RefSig} (v : View σ .tc .vmem S144x512 .f32) (L : List (View.Piece (Elt F) S144x512 .f32)) (n j : ℕ) :
    v.readCov (I.stores v L n j) accRect.toLoadRect = I.acc n j := by
  induction j with
  | zero => exact View.readCov_cons_toLoadRect (Val := Elt F) (e := .f32) v accRect (zeros (F := F)) L
  | succ j ih =>
    rw [Ins.stores, ih]
    exact View.readCov_cons_toLoadRect (Val := Elt F) (e := .f32) v accRect (step I.bnd (I.v j) (I.score n j) (I.acc n j)) _

/-- The result of query block `n`, its accumulator read back from the stores. -/
def Ins.resultOf (I : Ins F) {σ : RefSig} (v : View σ .tc .vmem S144x512 .f32) (i c : ℕ) : FVec F S1x256x128 .bf16 :=
  normed (difference I.l (v.readCov (I.stores v (I.before v c i) (4 * i + c) (4 * i + c + 1)) accRect.toLoadRect)) I.g

/-- The result of query block `n`. -/
def Ins.result (I : Ins F) (n : ℕ) : FVec F S1x256x128 .bf16 := normed (difference I.l (I.acc n (n + 1))) I.g

theorem Ins.resultOf_eq (I : Ins F) {σ : RefSig} (v : View σ .tc .vmem S144x512 .f32) (i c : ℕ) : I.resultOf v i c = I.result (4 * i + c) := by
  unfold Ins.resultOf Ins.result
  rw [Ins.readCov_stores]

/-- The pieces of one group of four query blocks, last first. -/
def Ins.group (I : Ins F) {σ : RefSig} (a b c d : View σ .tc .vmem S144x512 .f32) (i : ℕ) : List (View.Piece (Elt F) S1x4096x128 .bf16) :=
  [⟨rowRect (4 * i + 3), I.resultOf d i 3⟩, ⟨rowRect (4 * i + 2), I.resultOf c i 2⟩, ⟨rowRect (4 * i + 1), I.resultOf b i 1⟩, ⟨rowRect (4 * i), I.resultOf a i 0⟩]

theorem inbOne : ∀ a, (![0, 0] : Fin 2 → ℕ) a + S1x1.size a ≤ S1x1.size a := by decide
theorem inbVec : ∀ a, (![0, 0] : Fin 2 → ℕ) a + S1x64.size a ≤ S1x64.size a := by decide
theorem inbGain : ∀ a, (![0, 0] : Fin 2 → ℕ) a + S128x1.size a ≤ S128x1.size a := by decide

section
variable (arg2 : Memref sig .tc .smem S1x1 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x128x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole)
    (x0 : Vec F S1x1 .f32) (x1 : Vec F S1x4096x128 .bf16) (x2 : Vec F S1x4096x128 .bf16) (x3 : Vec F S1x128x4096 .bf16) (x4 : Vec F S1x64 .f32) (x5 : Vec F S1x64 .f32) (x6 : Vec F S1x64 .f32) (x7 : Vec F S1x64 .f32) (x8 : Vec F S128x1 .f32)

/-- What the staging buffers hand to a grid point. -/
def ins : Ins F where
  bnd := View.readAt (Elt F) arg2.view (Rect.unit ![0, 0] S1x1.size inbOne).toLoadRect (harg2.unread x0) (Shape.Idx.first (show 0 < (Rect.unit ![0, 0] S1x1.size inbOne).shape.numel by decide))
  q j := shapeCast S256x128 (View.readAt (Elt F) arg3.view (rowRect j).toLoadRect (harg3.unread x1)) shapeCasts_S1x256x128_S256x128
  k j := shapeCast S256x128 (View.readAt (Elt F) arg4.view (rowRect j).toLoadRect (harg4.unread x2)) shapeCasts_S1x256x128_S256x128
  v j := shapeCast S128x256 (View.readAt (Elt F) arg5.view (colRect j).toLoadRect (harg5.unread x3)) shapeCasts_S1x128x256_S128x256
  l := lam (View.readAt (Elt F) arg6.view (Rect.unit ![0, 0] S1x64.size inbVec).toLoadRect (harg6.unread x4))
    (View.readAt (Elt F) arg7.view (Rect.unit ![0, 0] S1x64.size inbVec).toLoadRect (harg7.unread x5))
    (View.readAt (Elt F) arg8.view (Rect.unit ![0, 0] S1x64.size inbVec).toLoadRect (harg8.unread x6))
    (View.readAt (Elt F) arg9.view (Rect.unit ![0, 0] S1x64.size inbVec).toLoadRect (harg9.unread x7))
  g := View.readAt (Elt F) arg10.view (Rect.unit ![0, 0] S128x1.size inbGain).toLoadRect (harg10.unread x8)

end

section
variable (dev : Dev nD) (i : grid0.Coords) (arg2 : Memref sig .tc .smem S1x1 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x128x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole)  (arg11 : Memref sig .tc .vmem S1x4096x128 .bf16) (harg11 : arg11.IsWhole) (arg12 : Memref sig .tc .vmem S144x512 .f32) (harg12 : arg12.IsWhole) (arg13 : Memref sig .tc .vmem S144x512 .f32) (harg13 : arg13.IsWhole) (arg14 : Memref sig .tc .vmem S144x512 .f32) (harg14 : arg14.IsWhole) (arg15 : Memref sig .tc .vmem S144x512 .f32) (harg15 : arg15.IsWhole)
    (x0 : Vec F S1x1 .f32) (x1 : Vec F S1x4096x128 .bf16) (x2 : Vec F S1x4096x128 .bf16) (x3 : Vec F S1x128x4096 .bf16) (x4 : Vec F S1x64 .f32) (x5 : Vec F S1x64 .f32) (x6 : Vec F S1x64 .f32) (x7 : Vec F S1x64 .f32) (x8 : Vec F S128x1 .f32)

/-- The pieces that the run stores into the output block are the sixteen blocks, last first. -/
theorem pieces : (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1 =
    (ins arg2 harg2 arg3 harg3 arg4 harg4 arg5 harg5 arg6 harg6 arg7 harg7 arg8 harg8 arg9 harg9 arg10 harg10 x0 x1 x2 x3 x4 x5 x6 x7 x8).group arg12.view arg13.view arg14.view arg15.view 3 ++ (ins arg2 harg2 arg3 harg3 arg4 harg4 arg5 harg5 arg6 harg6 arg7 harg7 arg8 harg8 arg9 harg9 arg10 harg10 x0 x1 x2 x3 x4 x5 x6 x7 x8).group arg12.view arg13.view arg14.view arg15.view 2 ++
    (ins arg2 harg2 arg3 harg3 arg4 harg4 arg5 harg5 arg6 harg6 arg7 harg7 arg8 harg8 arg9 harg9 arg10 harg10 x0 x1 x2 x3 x4 x5 x6 x7 x8).group arg12.view arg13.view arg14.view arg15.view 1 ++ (ins arg2 harg2 arg3 harg3 arg4 harg4 arg5 harg5 arg6 harg6 arg7 harg7 arg8 harg8 arg9 harg9 arg10 harg10 x0 x1 x2 x3 x4 x5 x6 x7 x8).group arg12.view arg13.view arg14.view arg15.view 0 := by
  sl_kernel_rfl

end

end Cert.Proof.Ker

end
-- ==== Proof.Softmax.lean ====
/- The arithmetic of the two attentions. A visible score enters the kernel as a power of two of the score less a bound,
   and the reference as an exponential of the score times the logarithm of two less the largest score; the two families
   of weights differ by one positive factor, which the division by their sums removes. -/
module

public import Idealize.ShloMosaic.Lib.Pointwise
public import Idealize.ShloMosaic.Lib.IdealHost

@[expose] public section

noncomputable section

namespace Cert.Proof.Softmax

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real whose absolute value is below infinity is a real. -/
theorem coe_toReal_of_abs {x : EReal} (h : x ≠ ⊤ ∧ x ≠ ⊥) : x = ((x.toReal : ℝ) : EReal) := (EReal.coe_toReal h.1 h.2).symm

section weights

variable {n : ℕ} (S : Fin n → ℝ) (vis : Fin n → Prop) [DecidablePred vis] (β M : ℝ)

/-- A key's weight in the kernel: a power of two, nothing for a key out of sight. -/
def weight (x : Fin n) : ℝ := if vis x then Real.rpow 2 (S x - β) else 0

/-- A key's exponential in the reference. -/
def expo (x : Fin n) : ℝ := if vis x then Real.exp (S x * Real.log 2 - M) else 0

theorem weight_nonneg (x : Fin n) : 0 ≤ weight S vis β x := by
  unfold weight
  split
  · exact Real.rpow_nonneg (by norm_num) _
  · exact le_rfl

theorem sum_weight_pos (h : ∃ x, vis x) : 0 < ∑ x, weight S vis β x := by
  obtain ⟨x, hx⟩ := h
  refine Finset.sum_pos' (fun y _ => weight_nonneg S vis β y) ⟨x, Finset.mem_univ x, ?_⟩
  rw [weight, if_pos hx]
  exact Real.rpow_pos_of_pos (by norm_num) _

theorem expo_eq (x : Fin n) : expo S vis M x = Real.exp (β * Real.log 2 - M) * weight S vis β x := by
  unfold expo weight
  split
  · rw [Real.rpow_eq_pow, Real.rpow_def_of_pos (by norm_num), ← Real.exp_add]
    congr 1
    ring
  · rw [mul_zero]

theorem expo_div (x : Fin n) : expo S vis M x / ∑ y, expo S vis M y = weight S vis β x / ∑ y, weight S vis β y := by
  simp only [expo_eq S vis β M, ← Finset.mul_sum]
  exact mul_div_mul_left _ _ (Real.exp_pos _).ne'

theorem sum_expo_pos (h : ∃ x, vis x) : 0 < ∑ x, expo S vis M x := by
  simp only [expo_eq S vis 0 M, ← Finset.mul_sum]
  exact mul_pos (Real.exp_pos _) (sum_weight_pos S vis 0 h)

end weights

/-- The difference of two attentions' outputs for one value row, as the kernel has it. -/
def differ {n : ℕ} (S₀ S₁ : Fin n → ℝ) (vis : Fin n → Prop) [DecidablePred vis] (β l : ℝ) (v : Fin n → ℝ) : ℝ :=
  (∑ x, v x * weight S₀ vis β x) * (1 / ∑ x, weight S₀ vis β x) - (∑ x, v x * weight S₁ vis β x) * (l * (1 / ∑ x, weight S₁ vis β x))

/-- The same as the reference has it: the difference of the weights, then the sum against the values. -/
theorem sum_differ {n : ℕ} (S₀ S₁ : Fin n → ℝ) (vis : Fin n → Prop) [DecidablePred vis] (β l M₀ M₁ : ℝ) (v : Fin n → ℝ) :
    ∑ x, (expo S₀ vis M₀ x / (∑ y, expo S₀ vis M₀ y) - l * (expo S₁ vis M₁ x / ∑ y, expo S₁ vis M₁ y)) * v x = differ S₀ S₁ vis β l v := by
  simp only [expo_div S₀ vis β M₀, expo_div S₁ vis β M₁, differ, Finset.sum_mul]
  rw [← Finset.sum_sub_distrib]
  exact Finset.sum_congr rfl fun x _ => by ring

/-- A real division read in the extended reals. -/
theorem div_real {a b : ℝ} (h : b ≠ 0) : Ideal.div (a : EReal) (b : EReal) = ((a / b : ℝ) : EReal) := by
  rw [Ideal.div_coe h, ← EReal.coe_mul, mul_one_div]

theorem div_one_real {b : ℝ} (h : b ≠ 0) : Ideal.div 1 (b : EReal) = ((1 / b : ℝ) : EReal) := by
  rw [Ideal.div_coe h, one_mul]

/-- The reference's masked score, shifted and exponentiated. -/
theorem exp_masked (s M : ℝ) (p : Prop) [Decidable p] :
    Ideal.exp ((if p then ((s * Real.log 2 : ℝ) : EReal) else ⊥) - (M : EReal)) = ((if p then Real.exp (s * Real.log 2 - M) else 0 : ℝ) : EReal) := by
  split
  · rw [← EReal.coe_sub, Ideal.exp_coe]
  · rw [EReal.bot_sub, Ideal.exp_bot, EReal.coe_zero]

/-- The kernel's masked score, shifted and exponentiated. -/
theorem exp2_masked (s β : ℝ) (p : Prop) [Decidable p] :
    Ideal.exp2 ((if p then (s : EReal) else ⊥) - (β : EReal)) = ((if p then Real.rpow 2 (s - β) else 0 : ℝ) : EReal) := by
  split
  · rw [← EReal.coe_sub, Ideal.exp2_coe]
  · rw [EReal.bot_sub, Ideal.exp2_bot, EReal.coe_zero]

/-- The constants of the two programs. -/
theorem const_two : Ideal.ofBits .f32 0x40000000#32 = ((2 : ℝ) : EReal) := by
  simp [Ideal.ofBits, Ideal.ieee]
  rw [← EReal.coe_mul]
  norm_num

theorem const_minus_infinity : Ideal.ofBits .f32 0xFF800000#32 = ⊥ := by
  simp [Ideal.ofBits, Ideal.ieee]

theorem const_plus_infinity : Ideal.ofBits .f32 0x7F800000#32 = ⊤ := by
  simp [Ideal.ofBits, Ideal.ieee]

theorem const_plus_infinity_bf16 : Ideal.ofBits .bf16 0x7F80#16 = ⊤ := by
  simp [Ideal.ofBits, Ideal.ieee]

theorem const_init_real : ∃ r : ℝ, Ideal.ofBits .f32 0x3E4CCCCD#32 = (r : EReal) := by
  simp [Ideal.ofBits, Ideal.ieee]
  exact ⟨_, rfl⟩

theorem log_two : Ideal.log (Ideal.ofBits .f32 0x40000000#32) = ((Real.log 2 : ℝ) : EReal) := by
  rw [const_two, Ideal.log_coe, if_neg (by norm_num)]

/-- A maximum over axes of an array, from minus infinity, is real when no element is infinite from above and one of those it runs over is not minus infinity. -/
theorem reduce_max_real {s t u : Shape} {axes : List (Fin s.rank)} (x : s.Idx → EReal) (init : u.Idx → EReal) (h : s.ReducesTo axes t) (hu : 0 < u.numel)
    (j : t.Idx) (hx : ∀ i, x i ≠ ⊤) (hi : init (Shape.Idx.first hu) = ⊥) (i : s.Idx) (hd : h.drop i = j) (hb : x i ≠ ⊥) :
    ∃ M : ℝ, Host.reduce (FloatOps.maximumf (F := Ideal) (φ := .f32)) x init h hu j = (M : EReal) := by
  have e : (FloatOps.maximumf (F := Ideal) (φ := .f32)) = (max : EReal → EReal → EReal) := Ideal.maximumf_eq_max
  rw [e]
  rw [Host.reduce_eq_fold]
  refine ⟨_, (EReal.coe_toReal ?_ ?_).symm⟩
  · refine ne_of_lt ((Finset.fold_max_lt _).mpr ⟨by rw [hi]; exact bot_lt_top, fun y _ => lt_top_iff_ne_top.mpr (hx y)⟩)
  · refine (ne_of_gt (lt_of_lt_of_le (bot_lt_iff_ne_bot.mpr hb) ((Finset.le_fold_max _).mpr (Or.inr ⟨i, ?_, le_rfl⟩))))
    exact Finset.mem_filter.mpr ⟨Finset.mem_univ i, hd⟩

/-- The elementwise maximum at an index. -/
theorem maximumf_max {s : Shape} (x y : FVec Ideal s .f32) (j : s.Idx) : maximumf x y j = (max (x j) (y j) : EReal) := rfl

end Cert.Proof.Softmax

end
-- ==== Proof.Attention.lean ====
/- The attention as a function of its arrays at one index: the form that the kernel's blocks and the reference are both
   brought to. -/
module

public import proofs.«01_k».proof.Proof.Softmax

@[expose] public section

noncomputable section

namespace Cert.Proof.Softmax

open Idealize.ShloMosaic

/-- The score of a key against a query in half `m` of the head. -/
def score (K Q : ℕ → ℕ → ℝ) (m query key : ℕ) : ℝ := ∑ d : Fin 64, Q query (64 * m + d) * K key (64 * m + d)

/-- The root-mean-square normalisation of a head's output, with its gain, at one lane. -/
def rms (o : Fin 128 → EReal) (g : EReal) (r : Fin 128) : EReal :=
  o r * Ideal.rsqrt (Ideal.div (∑ x, o x * o x) (Ideal.ofBits .f32 0x43000000#32) + Ideal.ofBits .f32 0x358637BD#32) * g * Ideal.ofBits .f32 0x3F4CCCCD#32

/-- The difference of the two attentions of a query at one lane of a head. -/
def head (K Q V : ℕ → ℕ → ℝ) (β l : ℝ) (query : ℕ) (r : Fin 128) : ℝ :=
  differ (fun key : Fin 4096 => score K Q 0 query key) (fun key : Fin 4096 => score K Q 1 query key)
    (fun key : Fin 4096 => (key : ℕ) / 64 ≤ query / 64) β l (fun key => V r key)

/-- Head `h` of batch `b` of a queries' or keys' array, as reals. -/
def headRows (A : (⟨3, ![16, 4096, 512]⟩ : Shape).Idx → EReal) (b : Fin 16) (h : Fin 4) (s d : ℕ) : ℝ :=
  (A (ix3 b ⟨s % 4096, Nat.mod_lt _ (by decide)⟩ ⟨(128 * h + d) % 512, Nat.mod_lt _ (by decide)⟩)).toReal

/-- Head `h` of batch `b` of the transposed values, as reals. -/
def headCols (A : (⟨3, ![16, 512, 4096]⟩ : Shape).Idx → EReal) (b : Fin 16) (h : Fin 4) (r s : ℕ) : ℝ :=
  (A (ix3 b ⟨(128 * h + r) % 512, Nat.mod_lt _ (by decide)⟩ ⟨s % 4096, Nat.mod_lt _ (by decide)⟩)).toReal

/-- Every element of an array is a real. -/
def AllReal {s : Shape} (A : s.Idx → EReal) : Prop := ∀ i, A i ≠ ⊤ ∧ A i ≠ ⊥

theorem AllReal.headRows {A : (⟨3, ![16, 4096, 512]⟩ : Shape).Idx → EReal} (H : AllReal A) (b : Fin 16) (h : Fin 4) (s : Fin 4096) (d : Fin 128) (c : Fin 512)
    (hc : (c : ℕ) = 128 * h + d) : A (ix3 b s c) = (Softmax.headRows A b h s d : EReal) := by
  have e1 : s = (⟨(s : ℕ) % 4096, Nat.mod_lt _ (by decide)⟩ : Fin 4096) := Fin.ext (by simp; omega)
  have e2 : c = (⟨(128 * h + d : ℕ) % 512, Nat.mod_lt _ (by decide)⟩ : Fin 512) := Fin.ext (by simp; omega)
  rw [Softmax.headRows, ← e1, ← e2]
  exact coe_toReal_of_abs (H _)

theorem AllReal.headCols {A : (⟨3, ![16, 512, 4096]⟩ : Shape).Idx → EReal} (H : AllReal A) (b : Fin 16) (h : Fin 4) (s : Fin 4096) (d : Fin 128) (c : Fin 512)
    (hc : (c : ℕ) = 128 * h + d) : A (ix3 b c s) = (Softmax.headCols A b h d s : EReal) := by
  have e1 : s = (⟨(s : ℕ) % 4096, Nat.mod_lt _ (by decide)⟩ : Fin 4096) := Fin.ext (by simp; omega)
  have e2 : c = (⟨(128 * h + d : ℕ) % 512, Nat.mod_lt _ (by decide)⟩ : Fin 512) := Fin.ext (by simp; omega)
  rw [Softmax.headCols, ← e1, ← e2]
  exact coe_toReal_of_abs (H _)

/-- The weight of the second map, from the four vectors it is made of. -/
def lamOf (a b c d : (⟨1, ![64]⟩ : Shape).Idx → EReal) : EReal :=
  Ideal.exp (∑ x, a (ix1 x) * b (ix1 x)) - Ideal.exp (∑ x, c (ix1 x) * d (ix1 x)) + Ideal.ofBits .f32 0x3E4CCCCD#32

/-- It is real when they are. -/
theorem lamOf_real {a b c d : (⟨1, ![64]⟩ : Shape).Idx → EReal} (ha : AllReal a) (hb : AllReal b) (hc : AllReal c) (hd : AllReal d) :
    lamOf a b c d = ((lamOf a b c d).toReal : EReal) := by
  have e : ∀ {u v : (⟨1, ![64]⟩ : Shape).Idx → EReal}, AllReal u → AllReal v → ∃ r : ℝ, ∑ x, u (ix1 x) * v (ix1 x) = (r : EReal) := by
    intro u v hu hv
    refine ⟨∑ x, (u (ix1 x)).toReal * (v (ix1 x)).toReal, ?_⟩
    rw [coe_sum]
    exact Finset.sum_congr rfl fun x _ => by rw [EReal.coe_mul, ← coe_toReal_of_abs (hu _), ← coe_toReal_of_abs (hv _)]
  obtain ⟨x, hx⟩ := e ha hb
  obtain ⟨y, hy⟩ := e hc hd
  obtain ⟨z, hz⟩ := const_init_real
  rw [lamOf, hx, hy, hz, Ideal.exp_coe, Ideal.exp_coe, ← EReal.coe_sub, ← EReal.coe_add, EReal.toReal_coe]

/-- The attention's result at an index. -/
def attention (bnd : EReal) (q k : (⟨3, ![16, 4096, 512]⟩ : Shape).Idx → EReal) (v : (⟨3, ![16, 512, 4096]⟩ : Shape).Idx → EReal) (l : EReal)
    (g : (⟨1, ![128]⟩ : Shape).Idx → EReal) (b : Fin 16) (s : Fin 4096) (h : Fin 4) (r : Fin 128) : EReal :=
  rms (fun x => (head (headRows k b h) (headRows q b h) (headCols v b h) bnd.toReal l.toReal s x : EReal)) (g (ix1 r)) r

end Cert.Proof.Softmax

end
-- ==== Proof.KernelPoint.lean ====
/- A block of queries of the kernel read at an index, when what the grid point reads is real: the accumulator holds the
   sums of the keys' weights and of the values against them, and the result is their normalised difference. -/
module

public import proofs.«01_k».proof.Proof.KernelTerm
public import proofs.«01_k».proof.Proof.Attention
public import Idealize.ShloMosaic.Lib.Pipeline.ValueKit

@[expose] public section

set_option maxRecDepth 16384

noncomputable section

namespace Cert.Proof.Ker

open Cert.KernelIdeal Idealize.ShloMosaic Idealize.ShloMosaic.TcCoe Idealize.SL.Sem
open Cert.Proof.Softmax

/-! ## The mask of the block on the diagonal -/

theorem chunk_key : ∀ k : Fin 256, chunkOf (fun _ => BitVec.ofNat 32 k) (ix2 0 0) = BitVec.ofNat 32 (k / 64) := by decide +kernel

theorem query_ix : ∀ c : Fin 512, queryIx (ix2 0 c) = BitVec.ofNat 32 (c % 256) := by decide +kernel

theorem chunk_apply (v : IVec S256x512 32) (i : S256x512.Idx) (k : Fin 256) (h : v i = BitVec.ofNat 32 k) : chunkOf v i = BitVec.ofNat 32 (k / 64) := by
  rw [← chunk_key k]
  simp only [chunkOf, select, cmpi, andi, subi, remsi, divsi, broadcast, extui, h]

theorem sle_small : ∀ a b : Fin 4, IntOp.cmpi .sle (BitVec.ofNat 32 a) (BitVec.ofNat 32 b) = if (a : ℕ) ≤ b then 1#1 else 0#1 := by decide

theorem visible_apply (k : Fin 256) (c : Fin 512) : visible (ix2 k c) = if (k : ℕ) / 64 ≤ c % 256 / 64 then 1#1 else 0#1 := by
  have hq : queryIx (ix2 k c) = BitVec.ofNat 32 (c % 256) := query_ix c
  unfold visible
  show IntOp.cmpi .sle (chunkOf _ (ix2 k c)) (chunkOf queryIx (ix2 k c)) = _
  rw [chunk_apply _ _ k (by pointwise), chunk_apply queryIx _ ⟨c % 256, by omega⟩ hq]
  exact sle_small ⟨k / 64, by omega⟩ ⟨c % 256 / 64, by omega⟩

theorem select_ite {α : Type} (p : Prop) [Decidable p] (a b : α) : Scalar.select (if p then 1#1 else 0#1) a b = if p then a else b := by
  by_cases h : p <;> simp [Scalar.select, h]

theorem lane_first : ∀ d : Fin 128, IntOp.cmpi .slt (BitVec.ofNat 32 d) 64#32 = if (d : ℕ) < 64 then 1#1 else 0#1 := by decide

/-! ## The pieces at an index -/

theorem stacked_apply (q : FVec Ideal S256x128 .bf16) (r : Fin 512) (d : Fin 128) :
    stacked q (ix2 r d) = if (d : ℕ) / 64 = r / 256 then q (ix2 ⟨r % 256, by omega⟩ d) else 0 := by
  pointwise [stacked, firstHalf]
  rw [lane_first]
  simp only [select_ite]
  by_cases hr : (r : ℕ) < 256
  · have e : (⟨r, hr⟩ : Fin 256) = ⟨r % 256, by omega⟩ := Fin.ext (by simp; omega)
    rw [dif_pos hr, e]
    by_cases hd : (d : ℕ) < 64
    · rw [if_pos hd, if_pos (by omega)]
    · rw [if_neg hd, if_neg (by omega)]
  · have e : (⟨r - 256, by omega⟩ : Fin 256) = ⟨r % 256, by omega⟩ := Fin.ext (by simp; omega)
    rw [dif_neg hr, e]
    by_cases hd : (d : ℕ) < 64
    · rw [if_pos hd, if_neg (by omega)]
    · rw [if_neg hd, if_pos (by omega)]

theorem raw_apply (k q : FVec Ideal S256x128 .bf16) (x : Fin 256) (c : Fin 512) :
    rawScore k q (ix2 x c) = ∑ d : Fin 128, k (ix2 x d) * stacked q (ix2 c d) := by
  pointwise [rawScore]

theorem diag_apply (k q : FVec Ideal S256x128 .bf16) (x : Fin 256) (c : Fin 512) :
    diagScore k q (ix2 x c) = if (x : ℕ) / 64 ≤ c % 256 / 64 then rawScore k q (ix2 x c) else ⊥ := by
  pointwise [diagScore]
  rw [visible_apply, select_ite, IdealRules.named_const.ideal_named_scalar (κ := κ) (name := "mask") _ _ rfl]

theorem valueRows_apply (v : FVec Ideal S128x256 .bf16) (r : Fin 144) (x : Fin 256) :
    valueRows v (ix2 r x) = if h : (r : ℕ) < 128 then v (ix2 ⟨r, h⟩ x) else 1 := by
  pointwise [valueRows]

theorem step_apply (b : EReal) (v : FVec Ideal S128x256 .bf16) (s : FVec Ideal S256x512 .f32) (acc : FVec Ideal S144x512 .f32) (r : Fin 144) (c : Fin 512) :
    step b v s acc (ix2 r c) = acc (ix2 r c) + ∑ x : Fin 256, valueRows v (ix2 r x) * Ideal.exp2 (s (ix2 x c) - b) := by
  pointwise [step]
  rfl

theorem zeros_apply (r : Fin 144) (c : Fin 512) : zeros (F := Ideal) (ix2 r c) = 0 := by
  pointwise [zeros]

theorem acc_apply (I : Ins Ideal) (n j : ℕ) (r : Fin 144) (c : Fin 512) :
    I.acc n j (ix2 r c) = ∑ t ∈ Finset.range j, ∑ x : Fin 256, valueRows (I.v t) (ix2 r x) * Ideal.exp2 (I.score n t (ix2 x c) - I.bnd) := by
  induction j with
  | zero => rw [Ins.acc, zeros_apply, Finset.sum_range_zero]
  | succ j ih => rw [Ins.acc, step_apply, ih, Finset.sum_range_succ]

/-! ## Real data -/

/-- What a grid point reads is real: keys `K`, queries `Q`, values `V`, a bound `β` and a weight `l`. -/
structure Ins.Real (I : Ins Ideal) (K Q : ℕ → ℕ → ℝ) (V : ℕ → ℕ → ℝ) (β l : ℝ) : Prop where
  hk : ∀ t < 16, ∀ (x : Fin 256) (d : Fin 128), I.k t (ix2 x d) = (K (256 * t + x) d : EReal)
  hq : ∀ t < 16, ∀ (x : Fin 256) (d : Fin 128), I.q t (ix2 x d) = (Q (256 * t + x) d : EReal)
  hv : ∀ t < 16, ∀ (r : Fin 128) (x : Fin 256), I.v t (ix2 r x) = (V r (256 * t + x) : EReal)
  hb : I.bnd = (β : EReal)
  hl : I.l = (l : EReal)

section real
variable {I : Ins Ideal} {K Q V : ℕ → ℕ → ℝ} {β l : ℝ} (H : I.Real K Q V β l)
include H

theorem raw_real (n t : ℕ) (hn : n < 16) (ht : t < 16) (x : Fin 256) (c : Fin 512) :
    rawScore (I.k t) (I.q n) (ix2 x c) = (score K Q (c / 256) (256 * n + c % 256) (256 * t + x) : EReal) := by
  have hc : (c : ℕ) / 256 < 2 := by omega
  have e : ∀ d : Fin 128, I.k t (ix2 x d) * stacked (I.q n) (ix2 c d)
      = ((if (d : ℕ) / 64 = c / 256 then Q (256 * n + c % 256) d * K (256 * t + x) d else 0 : ℝ) : EReal) := by
    intro d
    rw [stacked_apply, H.hk t ht]
    split
    · rw [H.hq n hn, ← EReal.coe_mul, mul_comm]
    · rw [mul_zero, EReal.coe_zero]
  rw [raw_apply, Finset.sum_congr rfl fun d _ => e d, ← coe_sum]
  congr 1
  rw [score, Finset.sum_fin_eq_sum_range, Finset.sum_fin_eq_sum_range, show 128 = 2 * 64 from rfl, Finset.sum_range_mul_split, Finset.sum_eq_single (c / 256 : ℕ)]
  · refine Finset.sum_congr rfl fun d hd => ?_
    have hd : d < 64 := Finset.mem_range.mp hd
    rw [dif_pos (by omega), dif_pos hd, if_pos (by show (c / 256 * 64 + d) / 64 = _; omega)]
    have e : (c : ℕ) / 256 * 64 + d = 64 * (c / 256) + d := by omega
    show Q _ (c / 256 * 64 + d) * K _ (c / 256 * 64 + d) = _
    rw [e]
  · intro a ha hne
    refine Finset.sum_eq_zero fun d hd => ?_
    have hd : d < 64 := Finset.mem_range.mp hd
    split
    · exact if_neg (by show ¬ (a * 64 + d) / 64 = _; omega)
    · rfl
  · intro h
    exact absurd (Finset.mem_range.mpr hc) h

theorem score_real (n t : ℕ) (hn : n < 16) (ht : t ≤ n) (x : Fin 256) (c : Fin 512) :
    I.score n t (ix2 x c) = if (256 * t + x : ℕ) / 64 ≤ (256 * n + c % 256) / 64 then (score K Q (c / 256) (256 * n + c % 256) (256 * t + x) : EReal) else ⊥ := by
  rcases Nat.lt_or_eq_of_le ht with h | h
  · have e : I.score n t = rawScore (I.k t) (I.q n) := by
      obtain ⟨s, hs⟩ : ∃ s, n - t = s + 1 := ⟨n - t - 1, by omega⟩
      unfold Ins.score
      rw [hs]
    rw [e, raw_real H n t hn (by omega), if_pos (by omega)]
  · subst h
    have e : I.score t t = diagScore (I.k t) (I.q t) := by
      unfold Ins.score
      rw [Nat.sub_self]
    rw [e, diag_apply, raw_real H t t hn hn]
    exact if_congr (by omega) rfl rfl

/-- A row of values over rows of ones. -/
def rows (V : ℕ → ℕ → ℝ) (r key : ℕ) : ℝ := if r < 128 then V r key else 1

theorem rows_real (t : ℕ) (ht : t < 16) (r : Fin 144) (x : Fin 256) : valueRows (I.v t) (ix2 r x) = (rows V r (256 * t + x) : EReal) := by
  rw [valueRows_apply, rows]
  split
  · rw [H.hv t ht]
  · rw [EReal.coe_one]

/-- The whole accumulator of a block of queries: over all keys, those out of sight weighing nothing. -/
theorem acc_real (n : ℕ) (hn : n < 16) (r : Fin 144) (c : Fin 512) :
    I.acc n (n + 1) (ix2 r c)
      = ((∑ key : Fin 4096, rows V r key * weight (fun key : Fin 4096 => score K Q (c / 256) (256 * n + c % 256) key)
          (fun key : Fin 4096 => (key : ℕ) / 64 ≤ (256 * n + c % 256) / 64) β key : ℝ) : EReal) := by
  let g : ℕ → ℝ := fun key => rows V r key * if key / 64 ≤ (256 * n + c % 256) / 64 then
    Real.rpow 2 (score K Q (c / 256) (256 * n + c % 256) key - β) else 0
  have e : ∀ t ∈ Finset.range (n + 1), ∑ x : Fin 256, valueRows (I.v t) (ix2 r x) * Ideal.exp2 (I.score n t (ix2 x c) - I.bnd)
      = ((∑ x ∈ Finset.range 256, g (t * 256 + x) : ℝ) : EReal) := by
    intro t ht
    have ht : t < n + 1 := Finset.mem_range.mp ht
    rw [← Fin.sum_univ_eq_sum_range, coe_sum]
    refine Finset.sum_congr rfl fun x _ => ?_
    rw [rows_real H t (by omega), score_real H n t hn (by omega), H.hb, exp2_masked, ← EReal.coe_mul, mul_comm t 256]
  rw [acc_apply, Finset.sum_congr rfl e, ← coe_sum, ← Finset.sum_range_mul_split (n + 1) 256 g]
  congr 1
  rw [Finset.sum_fin_eq_sum_range]
  have hsub : Finset.range ((n + 1) * 256) ⊆ Finset.range 4096 := Finset.range_subset_range.mpr (by omega)
  rw [Finset.sum_subset hsub]
  · refine Finset.sum_congr rfl fun key hk => ?_
    rw [dif_pos (Finset.mem_range.mp hk)]
    rfl
  · intro key _ hk
    have hk : ¬ key < (n + 1) * 256 := fun h => hk (Finset.mem_range.mpr h)
    show _ * _ = (0 : ℝ)
    rw [if_neg (by omega), mul_zero]

end real

theorem difference_apply (l : EReal) (acc : FVec Ideal S144x512 .f32) (r : Fin 128) (c : Fin 256) :
    difference l acc (ix2 r c) = acc (ix2 ⟨r, by omega⟩ ⟨c, by omega⟩) * Ideal.div 1 (acc (ix2 128 ⟨c, by omega⟩))
      - acc (ix2 ⟨r, by omega⟩ ⟨256 + c, by omega⟩) * (l * Ideal.div 1 (acc (ix2 128 ⟨256 + c, by omega⟩))) := by
  pointwise [difference, inverse]

theorem normed_apply (d : FVec Ideal S128x256 .f32) (g : FVec Ideal S128x1 .f32) (c : Fin 256) (r : Fin 128) :
    normed d g (ix3 0 c r) = rms (fun x => d (ix2 x c)) (g (ix2 r 0)) r := by
  pointwise [normed, rms]

theorem difference_real {I : Ins Ideal} {K Q V : ℕ → ℕ → ℝ} {β l : ℝ} (H : I.Real K Q V β l) (n : ℕ) (hn : n < 16) (r : Fin 128) (c : Fin 256) :
    difference I.l (I.acc n (n + 1)) (ix2 r c) = (head K Q V β l (256 * n + c) r : EReal) := by
  have hs : ∃ key : Fin 4096, (key : ℕ) / 64 ≤ (256 * n + c) / 64 := ⟨⟨0, by omega⟩, by simp⟩
  have p0 := sum_weight_pos (fun key : Fin 4096 => score K Q 0 (256 * n + c) key) _ β hs
  have p1 := sum_weight_pos (fun key : Fin 4096 => score K Q 1 (256 * n + c) key) _ β hs
  have c0 : (c : ℕ) / 256 = 0 := by omega
  have c1 : (256 + c : ℕ) / 256 = 1 := by omega
  have d0 : (c : ℕ) % 256 = c := by omega
  have d1 : (256 + c : ℕ) % 256 = c := by omega
  have ones : ∀ key : ℕ, rows V 128 key = 1 := fun _ => rfl
  have vals : ∀ key : ℕ, rows V r key = V r key := fun key => if_pos r.isLt
  rw [difference_apply, acc_real H n hn, acc_real H n hn, acc_real H n hn, acc_real H n hn, H.hl]
  simp only [c0, c1, d0, d1, vals, show ((128 : Fin 144) : ℕ) = 128 from rfl, ones, one_mul]
  rw [div_one_real p0.ne', div_one_real p1.ne', head, differ]
  simp only [EReal.coe_sub, EReal.coe_mul]

/-- A block of queries' result. -/
theorem result_real {I : Ins Ideal} {K Q V : ℕ → ℕ → ℝ} {β l : ℝ} (H : I.Real K Q V β l) (n : ℕ) (hn : n < 16) (c : Fin 256) (r : Fin 128) :
    I.result n (ix3 0 c r) = rms (fun x => (head K Q V β l (256 * n + c) x : EReal)) (I.g (ix2 r 0)) r := by
  rw [Ins.result, normed_apply]
  simp only [difference_real H n hn]

end Cert.Proof.Ker

end
-- ==== Proof.KernelArray.lean ====
/- The kernel's result array after the run: block by block what the grid points store, read at an index. -/
module

public import proofs.«01_k».proof.Proof.KernelPoint
public import Idealize.ShloMosaic.Lib.Claim
public import Idealize.ShloMosaic.Lib.WholeRead

@[expose] public section

set_option maxRecDepth 16384

noncomputable section

namespace Cert.Proof.Ker

open Cert.KernelIdeal Idealize.ShloMosaic Idealize.ShloMosaic.TcCoe Idealize.SL.Sem
open Cert.Proof.Softmax

variable (m : (ℓ : Loc nD τ sig) → Buf (Elt Ideal) ℓ) (c : Dev nD) (t : Fin cfg0.N)

/-- What grid point `t` reads. -/
def point : Ins Ideal :=
  ins (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t)
    (Gen.ms0_5 t) (Gen.hs0_5 t) (Gen.ms0_6 t) (Gen.hs0_6 t) (Gen.ms0_7 t) (Gen.hs0_7 t) (Gen.ms0_8 t) (Gen.hs0_8 t)
    (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)

/-- A block's piece, where it holds an index of the output block. -/
theorem piece_at (I : Ins Ideal) {σ : RefSig} (v : View σ .tc .vmem S144x512 .f32) (i e : ℕ) (he : 4 * i + e < 16) (n : ℕ) (x : Fin 256) (r : Fin 128) (hn : n < 16)
    (z : S1x256x128.Idx) (h : (rowRect (4 * i + e)).emb z = (ix3 0 ⟨256 * n + x, by omega⟩ r : S1x4096x128.Idx)) :
    I.resultOf v i e z = I.result n (ix3 0 x r) := by
  have h1 : 256 * ((4 * i + e) % 16) + (z 1 : ℕ) = 256 * n + x := by
    have := congrArg (fun y : S1x4096x128.Idx => (y 1 : ℕ)) h
    simpa [rowRect] using this
  have h2 : (z 2 : ℕ) = r := by
    have := congrArg (fun y : S1x4096x128.Idx => (y 2 : ℕ)) h
    simpa [rowRect] using this
  have b1 : (z 1 : ℕ) < 256 := (z 1).isLt
  have en : 4 * i + e = n := by omega
  have ez : z = (ix3 0 x r : S1x256x128.Idx) := by
    funext a
    fin_cases a
    · exact Fin.ext (by have : (z 0 : ℕ) < 1 := (z 0).isLt; show (z 0 : ℕ) = 0; omega)
    · exact Fin.ext (by show (z 1 : ℕ) = x; omega)
    · exact Fin.ext h2
  rw [Ins.resultOf_eq, en, ez]

/-- What a grid point leaves in the output block. -/
theorem outs_apply (n : ℕ) (hn : n < 16) (x : Fin 256) (r : Fin 128) :
    Gen.outsAt0 m c t (ix3 0 ⟨256 * n + x, by omega⟩ r) = (point m c t).result n (ix3 0 x r) := by
  unfold Gen.outsAt0 Gen.out0_A_9
  rw [View.read_writes_junk_eq_canon]
  refine View.canon_eq_of_allAt _ _ _ (Gen.cover0_A_9 ..) ?_
  rw [pieces]
  intro p hp z hz
  simp only [Ins.group, List.mem_append, List.mem_cons, List.not_mem_nil, or_false] at hp
  rcases hp with ((hp | hp) | hp) | hp <;> rcases hp with rfl | rfl | rfl | rfl <;> exact piece_at _ _ _ _ (by decide) n x r hn z hz

/-! ## What a grid point reads of the arrays -/

section loads

theorem row_cast (w : FVec Ideal S1x256x128 .bf16) (x : Fin 256) (d : Fin 128) :
    shapeCast S256x128 w Cert.KernelIdeal.Facts₀.shapeCasts_S1x256x128_S256x128 (ix2 x d) = w (ix3 0 x d) := by
  pointwise

theorem col_cast (w : FVec Ideal S1x128x256 .bf16) (r : Fin 128) (x : Fin 256) :
    shapeCast S128x256 w Cert.KernelIdeal.Facts₀.shapeCasts_S1x128x256_S128x256 (ix2 r x) = w (ix3 0 r x) := by
  pointwise

theorem load_rows (a : Memref sig .tc .vmem S1x4096x128 .bf16) (ha : a.IsWhole) (X : FVec Ideal S1x4096x128 .bf16) (j : ℕ) (hj : j < 16) (x : Fin 256) (d : Fin 128) :
    View.readAt (Elt Ideal) a.view (rowRect j).toLoadRect (ha.unread X) (ix3 0 x d : S1x256x128.Idx) = X (ix3 0 ⟨256 * j + x, by omega⟩ d) := by
  rw [ha.readAt_unread]
  refine congrArg X (funext fun b => ?_)
  fin_cases b <;> refine Fin.ext ?_ <;> simp [rowRect, Nat.mod_eq_of_lt hj]

theorem load_cols (a : Memref sig .tc .vmem S1x128x4096 .bf16) (ha : a.IsWhole) (X : FVec Ideal S1x128x4096 .bf16) (j : ℕ) (hj : j < 16) (r : Fin 128) (x : Fin 256) :
    View.readAt (Elt Ideal) a.view (colRect j).toLoadRect (ha.unread X) (ix3 0 r x : S1x128x256.Idx) = X (ix3 0 r ⟨256 * j + x, by omega⟩) := by
  rw [ha.readAt_unread]
  refine congrArg X (funext fun b => ?_)
  fin_cases b <;> refine Fin.ext ?_ <;> simp [colRect, Nat.mod_eq_of_lt hj]

theorem load_vec (a : Memref sig .tc .vmem S1x64 .f32) (ha : a.IsWhole) (X : FVec Ideal S1x64 .f32) :
    View.readAt (Elt Ideal) a.view (Rect.unit ![0, 0] S1x64.size inbVec).toLoadRect (ha.unread X) = X := by
  funext i
  rw [ha.readAt_unread]
  refine congrArg X (funext fun b => ?_)
  fin_cases b <;> refine Fin.ext ?_ <;> simp

theorem load_gain (a : Memref sig .tc .vmem S128x1 .f32) (ha : a.IsWhole) (X : FVec Ideal S128x1 .f32) :
    View.readAt (Elt Ideal) a.view (Rect.unit ![0, 0] S128x1.size inbGain).toLoadRect (ha.unread X) = X := by
  funext i
  rw [ha.readAt_unread]
  refine congrArg X (funext fun b => ?_)
  fin_cases b <;> refine Fin.ext ?_ <;> simp

theorem load_one (a : Memref sig .tc .smem S1x1 .f32) (ha : a.IsWhole) (X : FVec Ideal S1x1 .f32) (i) :
    View.readAt (Elt Ideal) a.view (Rect.unit ![0, 0] S1x1.size inbOne).toLoadRect (ha.unread X) i = X (ix2 0 0) := by
  rw [ha.readAt_unread]
  refine congrArg X (funext fun b => ?_)
  fin_cases b <;> exact Subsingleton.elim (α := Fin 1) _ _

theorem lam_apply (a b c d : FVec Ideal S1x64 .f32) :
    lam a b c d = lamOf (fun i => a (ix2 0 (i 0))) (fun i => b (ix2 0 (i 0))) (fun i => c (ix2 0 (i 0))) (fun i => d (ix2 0 (i 0))) := by
  pointwise [lam]
  simp only [Finset.univ_unique, Finset.sum_const, Finset.card_singleton, one_smul]
  rfl

end loads

/-- The batch of a grid point. -/
abbrev batchOf : Fin 16 := ⟨t / 4, by have : (t : ℕ) < 64 := t.isLt; omega⟩

/-- The head of a grid point. -/
abbrev headOf : Fin 4 := ⟨t % 4, Nat.mod_lt _ (by decide)⟩

theorem index1 : ∀ t : Fin cfg0.N, win0_1.index t 0 = t / 4 ∧ win0_1.index t 1 = 0 ∧ win0_1.index t 2 = t % 4 :=
  (by decide +kernel : ∀ t : Fin grid0.N, win0_1.index t 0 = t / 4 ∧ win0_1.index t 1 = 0 ∧ win0_1.index t 2 = t % 4)

theorem index2 : ∀ t : Fin cfg0.N, win0_2.index t 0 = t / 4 ∧ win0_2.index t 1 = 0 ∧ win0_2.index t 2 = t % 4 :=
  (by decide +kernel : ∀ t : Fin grid0.N, win0_2.index t 0 = t / 4 ∧ win0_2.index t 1 = 0 ∧ win0_2.index t 2 = t % 4)

theorem index3 : ∀ t : Fin cfg0.N, win0_3.index t 0 = t / 4 ∧ win0_3.index t 1 = t % 4 ∧ win0_3.index t 2 = 0 :=
  (by decide +kernel : ∀ t : Fin grid0.N, win0_3.index t 0 = t / 4 ∧ win0_3.index t 1 = t % 4 ∧ win0_3.index t 2 = 0)

theorem index9 : ∀ t : Fin cfg0.N, win0_9.index t 0 = t / 4 ∧ win0_9.index t 1 = 0 ∧ win0_9.index t 2 = t % 4 :=
  (by decide +kernel : ∀ t : Fin grid0.N, win0_9.index t 0 = t / 4 ∧ win0_9.index t 1 = 0 ∧ win0_9.index t 2 = t % 4)

theorem fixed : ∀ t : Fin cfg0.N, win0_0.index t 0 = 0 ∧ win0_0.index t 1 = 0 ∧ win0_4.index t 1 = 0 ∧ win0_5.index t 1 = 0 ∧ win0_6.index t 1 = 0 ∧ win0_7.index t 1 = 0 ∧ win0_8.index t 0 = 0 :=
  (by decide +kernel : ∀ t : Fin grid0.N, win0_0.index t 0 = 0 ∧ win0_0.index t 1 = 0 ∧ win0_4.index t 1 = 0 ∧ win0_5.index t 1 = 0 ∧ win0_6.index t 1 = 0 ∧ win0_7.index t 1 = 0 ∧ win0_8.index t 0 = 0)

theorem block0 : Gen.iblk m c 0 t (ix2 0 0) = m ((c.tc : Thread nD τ).loc main_arg0) (ix2 0 0) := by
  blk_ext [Gen.iblk, Gen.V_main_arg0, fixed t]

theorem block1 (s : Fin 4096) (d : Fin 128) : Gen.iblk m c 1 t (ix3 0 s d) = m ((c.tc : Thread nD τ).loc main_arg1) (ix3 (batchOf t) s ⟨128 * (t % 4) + d, by omega⟩) := by
  blk_ext [Gen.iblk, Gen.V_main_arg1, index1 t]

theorem block2 (s : Fin 4096) (d : Fin 128) : Gen.iblk m c 2 t (ix3 0 s d) = m ((c.tc : Thread nD τ).loc main_arg2) (ix3 (batchOf t) s ⟨128 * (t % 4) + d, by omega⟩) := by
  blk_ext [Gen.iblk, Gen.V_main_arg2, index2 t]

theorem block3 (r : Fin 128) (s : Fin 4096) : Gen.iblk m c 3 t (ix3 0 r s) = m ((c.tc : Thread nD τ).loc main_arg3) (ix3 (batchOf t) ⟨128 * (t % 4) + r, by omega⟩ s) := by
  blk_ext [Gen.iblk, Gen.V_main_arg3, index3 t]

theorem block4 (x : Fin 64) : Gen.iblk m c 4 t (ix2 0 x) = m ((c.tc : Thread nD τ).loc main_arg4) (ix1 x) := by
  blk_point [Gen.iblk, Gen.V, fixed t]

theorem block5 (x : Fin 64) : Gen.iblk m c 5 t (ix2 0 x) = m ((c.tc : Thread nD τ).loc main_arg5) (ix1 x) := by
  blk_point [Gen.iblk, Gen.V, fixed t]

theorem block6 (x : Fin 64) : Gen.iblk m c 6 t (ix2 0 x) = m ((c.tc : Thread nD τ).loc main_arg6) (ix1 x) := by
  blk_point [Gen.iblk, Gen.V, fixed t]

theorem block7 (x : Fin 64) : Gen.iblk m c 7 t (ix2 0 x) = m ((c.tc : Thread nD τ).loc main_arg7) (ix1 x) := by
  blk_point [Gen.iblk, Gen.V, fixed t]

theorem block8 (r : Fin 128) : Gen.iblk m c 8 t (ix2 r 0) = m ((c.tc : Thread nD τ).loc main_arg8) (ix1 r) := by
  blk_point [Gen.iblk, Gen.V, fixed t]

/-- What a grid point reads is real when the arrays are. -/
theorem point_real (h0 : AllReal (m ((c.tc : Thread nD τ).loc main_arg0))) (h1 : AllReal (m ((c.tc : Thread nD τ).loc main_arg1)))
    (h2 : AllReal (m ((c.tc : Thread nD τ).loc main_arg2))) (h3 : AllReal (m ((c.tc : Thread nD τ).loc main_arg3)))
    (h4 : AllReal (m ((c.tc : Thread nD τ).loc main_arg4))) (h5 : AllReal (m ((c.tc : Thread nD τ).loc main_arg5)))
    (h6 : AllReal (m ((c.tc : Thread nD τ).loc main_arg6))) (h7 : AllReal (m ((c.tc : Thread nD τ).loc main_arg7))) :
    (point m c t).Real (headRows (m ((c.tc : Thread nD τ).loc main_arg2)) (batchOf t) (headOf t)) (headRows (m ((c.tc : Thread nD τ).loc main_arg1)) (batchOf t) (headOf t))
      (headCols (m ((c.tc : Thread nD τ).loc main_arg3)) (batchOf t) (headOf t)) (m ((c.tc : Thread nD τ).loc main_arg0) (ix2 0 0)).toReal
      (lamOf (m ((c.tc : Thread nD τ).loc main_arg4)) (m ((c.tc : Thread nD τ).loc main_arg5)) (m ((c.tc : Thread nD τ).loc main_arg6)) (m ((c.tc : Thread nD τ).loc main_arg7))).toReal where
  hk j hj x d := by
    show shapeCast S256x128 (View.readAt (Elt Ideal) (Gen.ms0_2 t).view (rowRect j).toLoadRect _) _ (ix2 x d) = _
    rw [row_cast, load_rows _ _ _ j hj, block2, h2.headRows _ (headOf t) _ d _ rfl]
  hq j hj x d := by
    show shapeCast S256x128 (View.readAt (Elt Ideal) (Gen.ms0_1 t).view (rowRect j).toLoadRect _) _ (ix2 x d) = _
    rw [row_cast, load_rows _ _ _ j hj, block1, h1.headRows _ (headOf t) _ d _ rfl]
  hv j hj r x := by
    show shapeCast S128x256 (View.readAt (Elt Ideal) (Gen.ms0_3 t).view (colRect j).toLoadRect _) _ (ix2 r x) = _
    rw [col_cast, load_cols _ _ _ j hj, block3, h3.headCols _ (headOf t) _ r _ rfl]
  hb := by
    show View.readAt (Elt Ideal) (Gen.ms0_0 t).view (Rect.unit ![0, 0] S1x1.size inbOne).toLoadRect _ _ = _
    rw [load_one, block0]
    exact coe_toReal_of_abs (h0 _)
  hl := by
    unfold point ins
    dsimp only
    rw [load_vec, load_vec, load_vec, load_vec, lam_apply, ← lamOf_real h4 h5 h6 h7]
    unfold lamOf
    congr 3 <;> congr 1 <;> funext x
    · exact congrArg₂ (· * ·) (block4 m c t x) (block5 m c t x)
    · exact congrArg₂ (· * ·) (block6 m c t x) (block7 m c t x)

theorem point_gain (r : Fin 128) : (point m c t).g (ix2 r 0) = m ((c.tc : Thread nD τ).loc main_arg8) (ix1 r) := by
  show View.readAt (Elt Ideal) (Gen.ms0_8 t).view (Rect.unit ![0, 0] S128x1.size inbGain).toLoadRect _ (ix2 r 0 : S128x1.Idx) = _
  rw [load_gain]
  exact block8 m c t r

/-- The kernel's result array after the run. -/
theorem array_eq (h0 : AllReal (m ((c.tc : Thread nD τ).loc main_arg0))) (h1 : AllReal (m ((c.tc : Thread nD τ).loc main_arg1)))
    (h2 : AllReal (m ((c.tc : Thread nD τ).loc main_arg2))) (h3 : AllReal (m ((c.tc : Thread nD τ).loc main_arg3)))
    (h4 : AllReal (m ((c.tc : Thread nD τ).loc main_arg4))) (h5 : AllReal (m ((c.tc : Thread nD τ).loc main_arg5)))
    (h6 : AllReal (m ((c.tc : Thread nD τ).loc main_arg6))) (h7 : AllReal (m ((c.tc : Thread nD τ).loc main_arg7))) :
    (Gen.dats m 0 c).arrAt 9 cfg0.N = fun i : S16x4096x512.Idx =>
      attention (m ((c.tc : Thread nD τ).loc main_arg0) (ix2 0 0)) (m ((c.tc : Thread nD τ).loc main_arg1)) (m ((c.tc : Thread nD τ).loc main_arg2))
        (m ((c.tc : Thread nD τ).loc main_arg3))
        (lamOf (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (i 0) (i 1) ⟨(i 2 : ℕ) / 128, by have : (i 2 : ℕ) < 512 := (i 2).isLt; omega⟩ ⟨(i 2 : ℕ) % 128, Nat.mod_lt _ (by decide)⟩ := by
  refine (Gen.dats m 0 c).arrAt_eq_of_covers 9 _ (by decide +kernel) fun t hf y => ?_
  rw [Gen.after0_9]
  have key : ∀ (s : Fin 4096) (r : Fin 128), Gen.outsAt0 m c t (ix3 0 s r) = attention (m ((c.tc : Thread nD τ).loc main_arg0) (ix2 0 0)) (m ((c.tc : Thread nD τ).loc main_arg1)) (m ((c.tc : Thread nD τ).loc main_arg2))
        (m ((c.tc : Thread nD τ).loc main_arg3))
        (lamOf (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (batchOf t) s (headOf t) r := by
    intro s r
    have e : s = (⟨256 * (s / 256) + (⟨s % 256, by omega⟩ : Fin 256), by simp; omega⟩ : Fin 4096) := Fin.ext (by simp; omega)
    rw [e, outs_apply m c t (s / 256) (by omega) ⟨s % 256, by omega⟩ r, result_real (point_real m c t h0 h1 h2 h3 h4 h5 h6 h7) _ (by omega), point_gain]
    rfl
  have b0 : (y 0 : ℕ) < 1 := (y 0).isLt
  have b1 : (y 1 : ℕ) < 4096 := (y 1).isLt
  have b2 : (y 2 : ℕ) < 128 := (y 2).isLt
  blk_simp [index9 t]
  have ey : y = (ix3 0 ⟨(y 1 : ℕ), b1⟩ ⟨(y 2 : ℕ), b2⟩ : S1x4096x128.Idx) := by
    funext a
    fin_cases a
    · exact Fin.ext (by show (y 0 : ℕ) = 0; omega)
    · rfl
    · rfl
  have e0 : (win0_9.blk t).view.emb y 0 = batchOf t := Fin.ext (by blk_simp [index9 t])
  have e1 : (win0_9.blk t).view.emb y 1 = ⟨(y 1 : ℕ), b1⟩ := Fin.ext (by blk_simp [index9 t])
  have e2 : (⟨((t : ℕ) % 4 * 128 + (y 2 : ℕ)) / 128, by omega⟩ : Fin 4) = headOf t := Fin.ext (by show ((t : ℕ) % 4 * 128 + (y 2 : ℕ)) / 128 = t % 4; omega)
  have e3 : (⟨((t : ℕ) % 4 * 128 + (y 2 : ℕ)) % 128, Nat.mod_lt _ (by decide)⟩ : Fin 128) = ⟨(y 2 : ℕ), b2⟩ :=
    Fin.ext (by show ((t : ℕ) % 4 * 128 + (y 2 : ℕ)) % 128 = (y 2 : ℕ); omega)
  refine (congrArg (Gen.outsAt0 m c t) ey).trans ((key _ _).trans ?_)
  exact congr (congr (congr (congrArg _ e0.symm) e1.symm) e2.symm) e3.symm

end Cert.Proof.Ker

end
-- ==== Proof.RefTerm.lean ====
/- The reference's result, cut into named stages: the chunk mask, the masked scores, the attention probabilities, the
   difference of the two maps and the normalised head output. -/
module

public import proofs.«01_k».proof.Proof.Gen.ReferenceIdeal.Run
public import Idealize.ShloMosaic.Lib.Pointwise

@[expose] public section

set_option maxRecDepth 16384

noncomputable section

namespace Cert.Proof.Ref

open Cert.ReferenceIdeal Idealize.ShloMosaic Idealize.ShloMosaic.TcCoe Idealize.SL.Sem
open Cert.ReferenceIdeal.Facts₀ Cert.ReferenceIdeal.Facts

/-- The chunk a position lies in, as the printed floor division computes it. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- Which key a query sees. -/
def visible : IVec S4096x4096 1 :=
  cmpi .sle (broadcastInDim S4096x4096 ![0, 1] bcast_S1x4096_S4096x4096_0_1 (broadcastInDim S1x4096 ![1] bcast_S4096_S1x4096_1 chunk))
    (broadcastInDim S4096x4096 ![0, 1] bcast_S4096x1_S4096x4096_0_1 (broadcastInDim S4096x1 ![0] bcast_S4096_S4096x1_0 chunk))

/-- The product of queries and keys, per head and half. -/
def dots (q k : FVec Ideal S16x4096x512 .bf16) : FVec Ideal S16x4x2x4096x4096 .f32 :=
  Host.dotGeneral dot_S16x4x4096x2x64_S16x4x4096x2x64_S16x4x2x4096x4096_4_4_2_2_013_013 none
    (transpose S16x4x4096x2x64 [0, 2, 1, 3, 4] (shapeCast _ (extf .f32 q bitsLt_bf16_f32) shapeCasts_S16x4096x512_S16x4096x4x2x64) transposes_S16x4096x4x2x64_S16x4x4096x2x64_0_2_1_3_4)
    (transpose S16x4x4096x2x64 [0, 2, 1, 3, 4] (shapeCast _ (extf .f32 k bitsLt_bf16_f32) shapeCasts_S16x4096x512_S16x4096x4x2x64) transposes_S16x4096x4x2x64_S16x4x4096x2x64_0_2_1_3_4)

/-- The masked scores. -/
def scores (q k : FVec Ideal S16x4096x512 .bf16) : FVec Ideal S16x4x2x4096x4096 .f32 :=
  select (broadcastInDim S16x4x2x4096x4096 ![3, 4] bcast_S4096x4096_S16x4x2x4096x4096_3_4 visible)
    (mulf (dots q k) (broadcastInDim S16x4x2x4096x4096 ![] bcast_S_S16x4x2x4096x4096 (Host.log (constant (F := Ideal) S_ .f32 0x40000000#32))))
    (broadcastInDim S16x4x2x4096x4096 ![] bcast_S_S16x4x2x4096x4096 (id (constant (F := Ideal) S_ .f32 0xFF800000#32)))

/-- The largest score of a query. -/
def top (s : FVec Ideal S16x4x2x4096x4096 .f32) : FVec Ideal S16x4x2x4096 .f32 :=
  maximumf (broadcastInDim S16x4x2x4096 ![] bcast_S_S16x4x2x4096 (constant S_ .f32 0xFF800000#32))
    (Host.reduce FloatOps.maximumf s (constant S_ .f32 0xFF800000#32) reducesTo_S16x4x2x4096x4096_S16x4x2x4096_d4 h_S_)

/-- The exponentials, shifted by the largest score. -/
def exps (s : FVec Ideal S16x4x2x4096x4096 .f32) : FVec Ideal S16x4x2x4096x4096 .f32 :=
  Host.exp (subf s (broadcastInDim S16x4x2x4096x4096 ![0, 1, 2, 3, 4] bcast_S16x4x2x4096x1_S16x4x2x4096x4096_0_1_2_3_4
    (broadcastInDim S16x4x2x4096x1 ![0, 1, 2, 3] bcast_S16x4x2x4096_S16x4x2x4096x1_0_1_2_3 (top s))))

/-- The probabilities. -/
def probs (e : FVec Ideal S16x4x2x4096x4096 .f32) : FVec Ideal S16x4x2x4096x4096 .f32 :=
  Host.divf e (broadcastInDim S16x4x2x4096x4096 ![0, 1, 2, 3, 4] bcast_S16x4x2x4096x1_S16x4x2x4096x4096_0_1_2_3_4
    (broadcastInDim S16x4x2x4096x1 ![0, 1, 2, 3] bcast_S16x4x2x4096_S16x4x2x4096x1_0_1_2_3
      (Host.reduceAdd e (constant S_ .f32 0x00000000#32) reducesTo_S16x4x2x4096x4096_S16x4x2x4096_d4 h_S_)))

/-- The weight of the second map. -/
def lam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The two maps' weighted difference applied to the values. -/
def mixed (p : FVec Ideal S16x4x2x4096x4096 .f32) (l : FVec Ideal S_ .f32) (v : FVec Ideal S16x512x4096 .bf16) : FVec Ideal S16x4x4096x128 .f32 :=
  Host.dotGeneral dot_S16x4x4096x4096_S16x4x4096x128_S16x4x4096x128_3_2_2_3_01_01 none
    (subf (shapeCast _ (extractStridedSlice S16x4x1x4096x4096 ![0, 0, 0, 0, 0] p slices_S16x4x2x4096x4096_S16x4x1x4096x4096_0_0_0_0_0) shapeCasts_S16x4x1x4096x4096_S16x4x4096x4096)
      (mulf (broadcastInDim S16x4x4096x4096 ![] bcast_S_S16x4x4096x4096 l)
        (shapeCast _ (extractStridedSlice S16x4x1x4096x4096 ![0, 0, 1, 0, 0] p slices_S16x4x2x4096x4096_S16x4x1x4096x4096_0_0_1_0_0) shapeCasts_S16x4x1x4096x4096_S16x4x4096x4096)))
    (transpose S16x4x4096x128 [0, 1, 3, 2] (shapeCast _ (extf .f32 v bitsLt_bf16_f32) shapeCasts_S16x512x4096_S16x4x128x4096) transposes_S16x4x128x4096_S16x4x4096x128_0_1_3_2)

/-- The root-mean-square normalisation of a head's output, its gain and the constant factor. -/
def normed (o : FVec Ideal S16x4x4096x128 .f32) (g : FVec Ideal S128 .f32) : FVec Ideal S16x4x4096x128 .f32 :=
  mulf (mulf (mulf o (broadcastInDim S16x4x4096x128 ![0, 1, 2, 3] bcast_S16x4x4096x1_S16x4x4096x128_0_1_2_3
      (Host.rsqrt (addf (Host.divf (broadcastInDim S16x4x4096x1 ![0, 1, 2] bcast_S16x4x4096_S16x4x4096x1_0_1_2
          (Host.reduceAdd (mulf o o) (constant S_ .f32 0x00000000#32) reducesTo_S16x4x4096x128_S16x4x4096_d3 h_S_))
        (broadcastInDim S16x4x4096x1 ![] bcast_S_S16x4x4096x1 (constant S_ .f32 0x43000000#32)))
        (broadcastInDim S16x4x4096x1 ![] bcast_S_S16x4x4096x1 (constant S_ .f32 0x358637BD#32))))))
      (broadcastInDim S16x4x4096x128 ![0, 1, 2, 3] bcast_S1x1x1x128_S16x4x4096x128_0_1_2_3 (broadcastInDim S1x1x1x128 ![3] bcast_S128_S1x1x1x128_3 g)))
    (broadcastInDim S16x4x4096x128 ![] bcast_S_S16x4x4096x128 (constant S_ .f32 0x3F4CCCCD#32))

/-- The heads side by side. -/
def laid (o : FVec Ideal S16x4x4096x128 .f32) : FVec Ideal S16x4096x512 .bf16 :=
  truncf .bf16 (shapeCast _ (transpose S16x4096x4x128 [0, 2, 1, 3] o transposes_S16x4x4096x128_S16x4096x4x128_0_2_1_3) shapeCasts_S16x4096x4x128_S16x4096x512) bitsLt_bf16_f32

/-- The reference as a function of its arrays. -/
def out (q k : FVec Ideal S16x4096x512 .bf16) (v : FVec Ideal S16x512x4096 .bf16) (a b c d : FVec Ideal S64 .f32) (g : FVec Ideal S128 .f32) :
    FVec Ideal S16x4096x512 .bf16 :=
  laid (normed (mixed (probs (exps (scores q k))) (lam a b c d) v) g)

theorem res_eq (m : (ℓ : Loc nD τ sig) → Buf (Elt Ideal) ℓ) (c : Dev nD) :
    Cert.ReferenceIdeal.Value.res_out0 m c
      = out (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.Value.res_out0 Cert.ReferenceIdeal.Value.res_main_v65
  rfl

end Cert.Proof.Ref

end
-- ==== Proof.RefPoint.lean ====
/- The reference read at an index, when the numbers it is made of are real: the softmax of each half, the weighted
   difference, its sum against the values and the normalisation, in the common form of the attention. -/
module

public import proofs.«01_k».proof.Proof.RefTerm
public import proofs.«01_k».proof.Proof.Attention

@[expose] public section

set_option maxRecDepth 16384

noncomputable section

namespace Cert.Proof.Ref

open Cert.ReferenceIdeal Idealize.ShloMosaic Idealize.ShloMosaic.TcCoe Idealize.SL.Sem
open Cert.Proof.Softmax

/-! ## The mask -/

theorem chunk_apply : ∀ k : Fin 4096, chunk (ix1 k) = BitVec.ofNat 32 (k / 64) := by decide +kernel

theorem sle_small : ∀ a b : Fin 64, IntOp.cmpi .sle (BitVec.ofNat 32 a) (BitVec.ofNat 32 b) = if (a : ℕ) ≤ b then 1#1 else 0#1 := by decide +kernel

theorem visible_apply (i j : Fin 4096) : visible (ix2 i j) = if (j : ℕ) / 64 ≤ i / 64 then 1#1 else 0#1 := by
  pointwise [visible]
  rw [chunk_apply, chunk_apply]
  exact sle_small ⟨j / 64, by omega⟩ ⟨i / 64, by omega⟩

/-! ## The stages at an index -/

theorem dots_apply (q k : FVec Ideal S16x4096x512 .bf16) (b : Fin 16) (h : Fin 4) (m : Fin 2) (i j : Fin 4096) :
    dots q k (ix5 b h m i j) = ∑ x : Fin 64, q (ix3 b i ⟨h * 128 + m * 64 + x, by omega⟩) * k (ix3 b j ⟨h * 128 + m * 64 + x, by omega⟩) := by
  pointwise [dots]

theorem scores_apply (q k : FVec Ideal S16x4096x512 .bf16) (b : Fin 16) (h : Fin 4) (m : Fin 2) (i j : Fin 4096) :
    scores q k (ix5 b h m i j) = if (j : ℕ) / 64 ≤ i / 64 then dots q k (ix5 b h m i j) * ((Real.log 2 : ℝ) : EReal) else ⊥ := by
  pointwise [scores]
  rw [visible_apply, log_two]
  have e : id (constant (F := Ideal) S_ FTy.f32 0xFF800000#32) ix0 = (⊥ : EReal) := const_minus_infinity
  rw [e]
  by_cases p : (j : ℕ) / 64 ≤ i / 64 <;> simp [Scalar.select, p]

theorem exps_apply (s : FVec Ideal S16x4x2x4096x4096 .f32) (b : Fin 16) (h : Fin 4) (m : Fin 2) (i j : Fin 4096) :
    exps s (ix5 b h m i j) = Ideal.exp (s (ix5 b h m i j) - top s (ix4 b h m i)) := by
  pointwise [exps]

theorem probs_apply (e : FVec Ideal S16x4x2x4096x4096 .f32) (b : Fin 16) (h : Fin 4) (m : Fin 2) (i j : Fin 4096) :
    probs e (ix5 b h m i j) = Ideal.div (e (ix5 b h m i j)) (∑ x, e (ix5 b h m i x)) := by
  pointwise [probs]

theorem mixed_apply (p : FVec Ideal S16x4x2x4096x4096 .f32) (l : FVec Ideal S_ .f32) (v : FVec Ideal S16x512x4096 .bf16)
    (b : Fin 16) (h : Fin 4) (i : Fin 4096) (r : Fin 128) :
    mixed p l v (ix4 b h i r) = ∑ x, (p (ix5 b h 0 i x) - l ix0 * p (ix5 b h 1 i x)) * v (ix3 b ⟨h * 128 + r, by omega⟩ x) := by
  pointwise [mixed]

theorem normed_apply (o : FVec Ideal S16x4x4096x128 .f32) (g : FVec Ideal S128 .f32) (b : Fin 16) (h : Fin 4) (i : Fin 4096) (r : Fin 128) :
    normed o g (ix4 b h i r) = rms (fun x => o (ix4 b h i x)) (g (ix1 r)) r := by
  pointwise [normed, rms]

theorem laid_apply (o : FVec Ideal S16x4x4096x128 .f32) (b : Fin 16) (i : Fin 4096) (j : Fin 512) :
    laid o (ix3 b i j) = o (ix4 b ⟨j / 128, by omega⟩ i ⟨j % 128, Nat.mod_lt _ (by decide)⟩) := by
  pointwise [laid]

theorem lam_apply (a b c d : FVec Ideal S64 .f32) : lam a b c d ix0 = lamOf a b c d := by
  pointwise [lam, lamOf]

/-- The largest score of a query is real, when no score is plus infinity and some score is real. -/
theorem top_real (s : FVec Ideal S16x4x2x4096x4096 .f32) (hs : ∀ i, s i ≠ ⊤) (b : Fin 16) (h : Fin 4) (m : Fin 2) (i j : Fin 4096)
    (hb : s (ix5 b h m i j) ≠ ⊥) : ∃ M : ℝ, top s (ix4 b h m i) = (M : EReal) := by
  obtain ⟨M, hM⟩ := reduce_max_real s (constant (F := Ideal) S_ .f32 0xFF800000#32) Facts₀.reducesTo_S16x4x2x4096x4096_S16x4x2x4096_d4 Facts₀.h_S_
    (ix4 b h m i) hs const_minus_infinity (ix5 b h m i j) (by
      funext a
      refine Fin.ext ?_
      rw [Shape.ReducesTo.drop_apply_val]
      fin_cases a <;> rfl) hb
  refine ⟨M, ?_⟩
  have e : broadcastInDim S16x4x2x4096 ![] Facts₀.bcast_S_S16x4x2x4096 (constant (F := Ideal) S_ .f32 0xFF800000#32) (ix4 b h m i) = (⊥ : EReal) := const_minus_infinity
  rw [top, maximumf_max, hM, e]
  exact max_eq_right bot_le

/-! ## Real data -/

section real
variable {q k : FVec Ideal S16x4096x512 .bf16} (hq : AllReal q) (hk : AllReal k)
include hq hk

theorem scores_real (b : Fin 16) (h : Fin 4) (m : Fin 2) (i j : Fin 4096) :
    scores q k (ix5 b h m i j) = if (j : ℕ) / 64 ≤ i / 64 then ((score (headRows k b h) (headRows q b h) m i j * Real.log 2 : ℝ) : EReal) else ⊥ := by
  rw [scores_apply, dots_apply, EReal.coe_mul, score, coe_sum]
  refine if_congr Iff.rfl (congrArg (· * _) (Finset.sum_congr rfl fun x _ => ?_)) rfl
  rw [EReal.coe_mul]
  refine congrArg₂ (· * ·) ?_ ?_
  · exact hq.headRows b h i ⟨64 * m + x, by omega⟩ _ (by simp; omega)
  · exact hk.headRows b h j ⟨64 * m + x, by omega⟩ _ (by simp; omega)

theorem top_scores (b : Fin 16) (h : Fin 4) (m : Fin 2) (i : Fin 4096) : ∃ M : ℝ, top (scores q k) (ix4 b h m i) = (M : EReal) := by
  refine top_real _ (fun x => ?_) b h m i i ?_
  · obtain ⟨b, h, m, i, j, rfl⟩ : ∃ (b : Fin 16) (h : Fin 4) (m : Fin 2) (i j : Fin 4096), x = ix5 b h m i j :=
      ⟨x 0, x 1, x 2, x 3, x 4, by funext a; fin_cases a <;> rfl⟩
    rw [scores_real hq hk]
    split
    · exact EReal.coe_ne_top _
    · exact bot_ne_top
  · rw [scores_real hq hk, if_pos le_rfl]
    exact EReal.coe_ne_bot _

/-- A key's probability. -/
theorem probs_real (b : Fin 16) (h : Fin 4) (m : Fin 2) (i : Fin 4096) : ∃ M : ℝ, ∀ j : Fin 4096,
    probs (exps (scores q k)) (ix5 b h m i j)
      = ((expo (fun j : Fin 4096 => score (headRows k b h) (headRows q b h) m i j) (fun j : Fin 4096 => (j : ℕ) / 64 ≤ i / 64) M j
        / ∑ y, expo (fun j : Fin 4096 => score (headRows k b h) (headRows q b h) m i j) (fun j : Fin 4096 => (j : ℕ) / 64 ≤ i / 64) M y : ℝ) : EReal) := by
  obtain ⟨M, hM⟩ := top_scores hq hk b h m i
  refine ⟨M, fun j => ?_⟩
  have e : ∀ j : Fin 4096, exps (scores q k) (ix5 b h m i j)
      = ((expo (fun j : Fin 4096 => score (headRows k b h) (headRows q b h) m i j) (fun j : Fin 4096 => (j : ℕ) / 64 ≤ i / 64) M j : ℝ) : EReal) := by
    intro j
    rw [exps_apply, hM, scores_real hq hk, exp_masked]
    rfl
  rw [probs_apply, e, Finset.sum_congr rfl fun y _ => e y, ← coe_sum]
  exact div_real (sum_expo_pos _ (fun j : Fin 4096 => (j : ℕ) / 64 ≤ i / 64) M ⟨i, le_rfl⟩).ne'

theorem mixed_real {v : FVec Ideal S16x512x4096 .bf16} (hv : AllReal v) (l : FVec Ideal S_ .f32) (hl : l ix0 = ((l ix0).toReal : EReal)) (β : ℝ)
    (b : Fin 16) (h : Fin 4) (i : Fin 4096) (r : Fin 128) :
    mixed (probs (exps (scores q k))) l v (ix4 b h i r) = (head (headRows k b h) (headRows q b h) (headCols v b h) β (l ix0).toReal i r : EReal) := by
  obtain ⟨M₀, p₀⟩ := probs_real hq hk b h 0 i
  obtain ⟨M₁, p₁⟩ := probs_real hq hk b h 1 i
  rw [head, ← sum_differ _ _ _ β _ M₀ M₁, mixed_apply, coe_sum]
  refine Finset.sum_congr rfl fun x _ => ?_
  rw [p₀, p₁, hl, hv.headCols b h x r _ (by simp; omega), EReal.coe_mul, EReal.coe_sub, EReal.coe_mul, EReal.toReal_coe]
  rfl

/-- The reference's result at an index. -/
theorem out_real {v : FVec Ideal S16x512x4096 .bf16} (hv : AllReal v) {a b c d : FVec Ideal S64 .f32} (ha : AllReal a) (hb : AllReal b) (hc : AllReal c)
    (hd : AllReal d) (g : FVec Ideal S128 .f32) (bnd : EReal) (e : Fin 16) (s : Fin 4096) (j : Fin 512) :
    out q k v a b c d g (ix3 e s j) = attention bnd q k v (lamOf a b c d) g e s ⟨j / 128, by omega⟩ ⟨j % 128, Nat.mod_lt _ (by decide)⟩ := by
  have hl : lam a b c d ix0 = ((lam a b c d ix0).toReal : EReal) := by
    rw [lam_apply]
    exact lamOf_real ha hb hc hd
  rw [out, laid_apply, normed_apply, attention]
  simp only [mixed_real hq hk hv _ hl bnd.toReal, lam_apply]

end real

end Cert.Proof.Ref

end
-- ==== Proof.Finite.lean ====
/- What the precondition says of one array: its comparison with infinity is all ones exactly when every element of it is
   a real number. -/
module

public import proofs.«01_k».proof.Proof.Attention

@[expose] public section

noncomputable section

namespace Cert.Proof.Softmax

open Idealize.ShloMosaic

/-- An extended real whose absolute value is below infinity is a real number. -/
theorem ne_infinite_of_abs_lt {x : EReal} (h : max x (-x) < ⊤) : x ≠ ⊤ ∧ x ≠ ⊥ := by
  obtain ⟨h1, h2⟩ := max_lt_iff.mp h
  refine ⟨h1.ne, fun e => ?_⟩
  rw [e] at h2
  simp at h2

/-- The comparison the precondition makes of one array, against an array every element of which is `+∞`. -/
theorem allReal_of_compare {s : Shape} {φ : FTy} (x top : FVec Ideal s φ) (ht : ∀ i, top i = (⊤ : EReal))
    (h : cmpf .olt (Host.absf x) top = fun _ => 1#1) : AllReal x := by
  intro i
  apply ne_infinite_of_abs_lt
  have e : Ideal.cmp .olt (max (x i : EReal) (-(x i : EReal))) (top i) = 1#1 := congrFun h i
  rw [ht i] at e
  by_contra hn
  simp [Ideal.cmp, hn] at e

end Cert.Proof.Softmax

end
-- ==== Proof.FeedForward.lean ====
/- The feed-forward part of a layer on one row of tokens, over the extended reals: the merge of the two gated branches, the
   projected residual, the modulated norm, and the gated feed-forward sum. -/
module

public import Idealize.ShloMosaic.Lib.Pointwise

@[expose] public section

noncomputable section

namespace Cert.Proof.Ffn

open Idealize.ShloMosaic

/-- The two branches, each through its output matrix and its gate. -/
def merged (og od : Fin 512 → EReal) (sg sd : Fin 1024 → EReal) (wg wd : Fin 512 → Fin 1024 → EReal) (n : Fin 1024) : EReal :=
  sg n * (∑ k, og k * wg k n) + sd n * ∑ k, od k * wd k n

/-- A token with the projected merge added to it. -/
def resid (x gt u : Fin 1024 → EReal) (wo : Fin 1024 → Fin 1024 → EReal) (n : Fin 1024) : EReal :=
  x n + gt n * ∑ k, u k * wo k n

/-- A token's root mean square norm, scaled and shifted. -/
def modulated (x g sc sh : Fin 1024 → EReal) (n : Fin 1024) : EReal :=
  x n * Ideal.rsqrt (Ideal.div (∑ k, x k * x k) (Ideal.ofBits .f32 0x44800000#32) + Ideal.ofBits .f32 0x358637BD#32) * g n * (1 + sc n) + sh n

/-- A hidden unit: the gate's column of the input matrix, and the value's column behind all the gates'. -/
def unit (h : Fin 1024 → EReal) (wi : Fin 1024 → Fin 5632 → EReal) (j : ℕ) (hj : j < 2816) : EReal :=
  (∑ k, h k * wi k ⟨j, by omega⟩) * Ideal.logistic (∑ k, h k * wi k ⟨j, by omega⟩) * ∑ k, h k * wi k ⟨2816 + j, by omega⟩

/-- A token with the feed-forward sum added to it. -/
def fed (x gt h : Fin 1024 → EReal) (wi : Fin 1024 → Fin 5632 → EReal) (wf : Fin 2816 → Fin 1024 → EReal) (n : Fin 1024) : EReal :=
  x n + gt n * ∑ j : Fin 2816, unit h wi j j.isLt * wf j n

/-- The hidden units in two runs, the first 1536 and the other 1280. -/
theorem fed_split (x gt h : Fin 1024 → EReal) (wi : Fin 1024 → Fin 5632 → EReal) (wf : Fin 2816 → Fin 1024 → EReal) (n : Fin 1024) :
    fed x gt h wi wf n = x n + gt n * ((∑ j : Fin 1536, unit h wi j (by omega) * wf ⟨j, by omega⟩ n)
      + ∑ j : Fin 1280, unit h wi (1536 + j) (by omega) * wf ⟨1536 + j, by omega⟩ n) := by
  unfold fed
  rw [show (∑ j : Fin 2816, unit h wi j j.isLt * wf j n) = _ from Fin.sum_univ_add (a := 1536) (b := 1280) fun j : Fin (1536 + 1280) => unit h wi j j.isLt * wf j n]
  rfl

/-- A token's row of the layer's result, from the token, the branches with their gates, the six modulation rows and the weights. -/
def layer (x : Fin 1024 → EReal) (og od : Fin 512 → EReal) (sg sd : Fin 1024 → EReal) (mod : Fin 6 → Fin 1024 → EReal) (g : Fin 1024 → EReal)
    (wg wd : Fin 512 → Fin 1024 → EReal) (wo : Fin 1024 → Fin 1024 → EReal) (wi : Fin 1024 → Fin 5632 → EReal) (wf : Fin 2816 → Fin 1024 → EReal) :
    Fin 1024 → EReal :=
  fed (resid x (mod 2) (merged og od sg sd wg wd) wo) (mod 5) (modulated (resid x (mod 2) (merged og od sg sd wg wd) wo) g (mod 4) (mod 3)) wi wf

/-- The layer's result at a token of the arrays. -/
def layerAt (x : (⟨3, ![16, 4096, 1024]⟩ : Shape).Idx → EReal) (og od : (⟨3, ![16, 4096, 512]⟩ : Shape).Idx → EReal)
    (sg sd : (⟨3, ![16, 4096, 1024]⟩ : Shape).Idx → EReal) (mod : (⟨3, ![16, 6, 1024]⟩ : Shape).Idx → EReal) (g : (⟨1, ![1024]⟩ : Shape).Idx → EReal)
    (wg wd : (⟨2, ![512, 1024]⟩ : Shape).Idx → EReal) (wo : (⟨2, ![1024, 1024]⟩ : Shape).Idx → EReal) (wi : (⟨2, ![1024, 5632]⟩ : Shape).Idx → EReal)
    (wf : (⟨2, ![2816, 1024]⟩ : Shape).Idx → EReal) (b : Fin 16) (t : Fin 4096) : Fin 1024 → EReal :=
  layer (fun n => x (ix3 b t n)) (fun k => og (ix3 b t k)) (fun k => od (ix3 b t k)) (fun n => sg (ix3 b t n)) (fun n => sd (ix3 b t n)) (fun i n => mod (ix3 b i n))
    (fun n => g (ix1 n)) (fun k n => wg (ix2 k n)) (fun k n => wd (ix2 k n)) (fun k n => wo (ix2 k n)) (fun k n => wi (ix2 k n)) (fun k n => wf (ix2 k n))

end Cert.Proof.Ffn

end
-- ==== Proof.FfnPoint.lean ====
/- A block of tokens of the feed-forward kernel read at an index: its upper and lower halves go through the same steps, and
   each row is the row of the layer. -/
module

public import proofs.«01_k».proof.Proof.FeedForward
public import proofs.«01_k».proof.Proof.Gen.Kernel2Ideal.Value
public import Idealize.ShloMosaic.Lib.Pipeline.ValueKit

@[expose] public section

set_option maxRecDepth 16384

noncomputable section

namespace Cert.Proof.Ffn

open Cert.Kernel2Ideal Idealize.ShloMosaic Idealize.ShloMosaic.TcCoe Idealize.SL.Sem
open Cert.Kernel2Ideal.Facts₀ Cert.Kernel2Ideal.Facts

/-! ## A half of the block -/

/-- The residual rows of a half. -/
theorem resid_apply (v1 : FVec Ideal S6x1024 .f32) (og : FVec Ideal S1x256x512 .bf16) (wg : FVec Ideal S512x1024 .bf16) (od : FVec Ideal S1x256x512 .bf16)
    (wd : FVec Ideal S512x1024 .bf16) (sg sd : FVec Ideal S1x256x1024 .bf16) (x : FVec Ideal S1x256x1024 .f32) (wo : FVec Ideal S1024x1024 .bf16)
    (r : Fin 256) (n : Fin 1024) :
    Gen.k0_pay4 v1 og wg od wd sg sd x wo (ix2 r n)
      = resid (fun n => x (ix3 0 r n)) (fun n => v1 (ix2 2 n))
          (merged (fun k => og (ix3 0 r k)) (fun k => od (ix3 0 r k)) (fun n => sg (ix3 0 r n)) (fun n => sd (ix3 0 r n)) (fun k n => wg (ix2 k n)) (fun k n => wd (ix2 k n)))
          (fun k n => wo (ix2 k n)) n := by
  pointwise [Gen.k0_pay4, resid, merged]

/-- The normed rows of a half. -/
def normed (v1 : FVec Ideal S6x1024 .f32) (x : FVec Ideal S256x1024 .f32) (g : FVec Ideal S1x1024 .f32) : FVec Ideal S256x1024 .bf16 :=
  truncf .bf16 (addf (Gen.k0_pay13 v1 x g) (broadcastTo S256x1024 (Gen.k0_pay12 v1) broadcasts_S1x1024_S256x1024)) bitsLt_bf16_f32

theorem normed_apply (v1 : FVec Ideal S6x1024 .f32) (x : FVec Ideal S256x1024 .f32) (g : FVec Ideal S1x1024 .f32) (r : Fin 256) (n : Fin 1024) :
    normed v1 x g (ix2 r n)
      = modulated (fun n => x (ix2 r n)) (fun n => g (ix2 0 n)) (fun n => v1 (ix2 4 n)) (fun n => v1 (ix2 3 n)) n := by
  pointwise [normed, Gen.k0_pay13, Gen.k0_pay12, modulated]

theorem upper_normed (v1 : FVec Ideal S6x1024 .f32) (x : FVec Ideal S256x1024 .f32) (g : FVec Ideal S1x1024 .f32) :
    Gen.k0_pay9 x (Gen.k0_pay5 g) (Gen.k0_pay6 v1) (Gen.k0_pay7 v1) (Gen.k0_pay8 x) = normed v1 x g := rfl

/-! ## The whole block -/

/-- A row of the block, from its upper and lower halves. -/
def pick {α : Type} (a b : Fin 256 → α) (x : Fin 512) : α :=
  if h : (x : ℕ) < 256 then a ⟨x, h⟩ else b ⟨x - 256, by omega⟩

/-- A hidden unit, from the gates' and the values' columns. -/
def act {J : ℕ} (h : Fin 1024 → EReal) (wa wb : FVec Ideal ⟨2, ![1024, J]⟩ .bf16) (j : Fin J) : EReal :=
  (∑ k, h k * wa (ix2 k j)) * Ideal.logistic (∑ k, h k * wa (ix2 k j)) * ∑ k, h k * wb (ix2 k j)

theorem whole_apply (v1 : FVec Ideal S6x1024 .f32) (x1 x2 : FVec Ideal S256x1024 .f32) (g : FVec Ideal S1x1024 .f32)
    (a0 b0 : FVec Ideal S1024x1536 .bf16) (f0 : FVec Ideal S1536x1024 .bf16) (a1 b1 : FVec Ideal S1024x1280 .bf16) (f1 : FVec Ideal S1280x1024 .bf16)
    (x : Fin 512) (n : Fin 1024) :
    Gen.k0_pay1 (Gen.k0_pay14 v1 x1 x2 (Gen.k0_pay9 x1 (Gen.k0_pay5 g) (Gen.k0_pay6 v1) (Gen.k0_pay7 v1) (Gen.k0_pay8 x1))
        (Gen.k0_pay10 x1 (Gen.k0_pay5 g) (Gen.k0_pay6 v1) (Gen.k0_pay7 v1) (Gen.k0_pay8 x1) a0)
        (Gen.k0_pay11 x1 (Gen.k0_pay5 g) (Gen.k0_pay6 v1) (Gen.k0_pay7 v1) (Gen.k0_pay8 x1) b0)
        (Gen.k0_pay12 v1) (Gen.k0_pay13 v1 x2 g) a0 b0 f0 a1 b1 f1) (ix3 0 x n)
      = pick (fun r => x1 (ix2 r n)) (fun r => x2 (ix2 r n)) x
        + v1 (ix2 5 n) * ((∑ j : Fin 1536, act (pick (fun r k => normed v1 x1 g (ix2 r k)) (fun r k => normed v1 x2 g (ix2 r k)) x) a0 b0 j * f0 (ix2 j n))
          + ∑ j : Fin 1280, act (pick (fun r k => normed v1 x1 g (ix2 r k)) (fun r k => normed v1 x2 g (ix2 r k)) x) a1 b1 j * f1 (ix2 j n)) := by
  unfold Gen.k0_pay10 Gen.k0_pay11
  rw [upper_normed]
  generalize normed v1 x1 g = h1
  pointwise [Gen.k0_pay1, Gen.k0_pay14]
  have e : ∀ (r : Fin 256) (k : Fin 1024), Gen.k0_pay13 v1 x2 g (ix2 r k) + Gen.k0_pay12 v1 (ix2 0 k) = normed v1 x2 g (ix2 r k) := by
    intro r k
    pointwise [normed]
  simp only [e]
  unfold pick act
  by_cases hx : (x : ℕ) < 256
  · simp only [dif_pos hx]
  · simp only [dif_neg hx]

/-! ## The block's rows are the layer's -/

variable (x0 : Vec Ideal S1x512x1024 .f32) (x1 x2 : Vec Ideal S1x512x512 .bf16) (x3 x4 : Vec Ideal S1x512x1024 .bf16) (x5 : Vec Ideal S1x6x1024 .f32)
  (x6 : Vec Ideal S1x1024 .f32) (x7 x8 : Vec Ideal S512x1024 .bf16) (x9 : Vec Ideal S1024x1024 .bf16) (x10 : Vec Ideal S1024x5632 .bf16)
  (x11 : Vec Ideal S2816x1024 .bf16)

/-- The residual row of a token of the block. -/
def residRow (x : Fin 512) : Fin 1024 → EReal :=
  resid (fun n => x0 (ix3 0 x n)) (fun n => x5 (ix3 0 2 n))
    (merged (fun k => x1 (ix3 0 x k)) (fun k => x2 (ix3 0 x k)) (fun n => x3 (ix3 0 x n)) (fun n => x4 (ix3 0 x n)) (fun k n => x7 (ix2 k n)) (fun k n => x8 (ix2 k n)))
    (fun k n => x9 (ix2 k n))

/-- The layer's row of a token of the block. -/
def layerRow (x : Fin 512) : Fin 1024 → EReal :=
  layer (fun n => x0 (ix3 0 x n)) (fun k => x1 (ix3 0 x k)) (fun k => x2 (ix3 0 x k)) (fun n => x3 (ix3 0 x n)) (fun n => x4 (ix3 0 x n)) (fun i n => x5 (ix3 0 i n))
    (fun n => x6 (ix2 0 n)) (fun k n => x7 (ix2 k n)) (fun k n => x8 (ix2 k n)) (fun k n => x9 (ix2 k n)) (fun k n => x10 (ix2 k n)) (fun k n => x11 (ix2 k n))

theorem mod_apply (i : Fin 6) (n : Fin 1024) : Gen.k0_pay15 (F := Ideal) x0 x1 x2 x3 x4 x5 x6 x7 x8 x9 x10 x11 (ix2 i n) = x5 (ix3 0 i n) := by
  pointwise [Gen.k0_pay15, Gen.k0_pay2]

theorem upper_apply (r : Fin 256) (n : Fin 1024) :
    Gen.k0_pay16 (F := Ideal) x0 x1 x2 x3 x4 x5 x6 x7 x8 x9 x10 x11 (ix2 r n) = residRow x0 x1 x2 x3 x4 x5 x7 x8 x9 ⟨r, by omega⟩ n := by
  refine (resid_apply (Gen.k0_pay15 (F := Ideal) x0 x1 x2 x3 x4 x5 x6 x7 x8 x9 x10 x11) _ _ _ _ _ _ _ _ r n).trans ?_
  simp only [mod_apply]
  pointwise [residRow, resid, merged]

theorem lower_apply (r : Fin 256) (n : Fin 1024) :
    Gen.k0_pay17 (F := Ideal) x0 x1 x2 x3 x4 x5 x6 x7 x8 x9 x10 x11 (ix2 r n) = residRow x0 x1 x2 x3 x4 x5 x7 x8 x9 ⟨256 + r, by omega⟩ n := by
  refine (resid_apply (Gen.k0_pay15 (F := Ideal) x0 x1 x2 x3 x4 x5 x6 x7 x8 x9 x10 x11) _ _ _ _ _ _ _ _ r n).trans ?_
  simp only [mod_apply]
  pointwise [residRow, resid, merged]

/-- A function of a row, by halves. -/
theorem pick_eq {α : Type} (a b : Fin 256 → α) (f : Fin 512 → α) (x : Fin 512) (ha : ∀ r : Fin 256, a r = f ⟨r, by omega⟩)
    (hb : ∀ r : Fin 256, b r = f ⟨256 + r, by omega⟩) : pick a b x = f x := by
  unfold pick
  split
  · exact ha _
  · rename_i h
    rw [hb]
    exact congrArg f (Fin.ext (by show 256 + ((x : ℕ) - 256) = x; omega))

theorem act_first (h : Fin 1024 → EReal) (j : Fin 1536) :
    act h (View.ld x10 Gen.r0_8) (View.ld x10 Gen.r0_9) j = unit h (fun k n => x10 (ix2 k n)) j (by omega) := by
  unfold act unit
  pointwise

theorem act_second (h : Fin 1024 → EReal) (j : Fin 1280) :
    act h (View.ld x10 Gen.r0_11) (View.ld x10 Gen.r0_12) j = unit h (fun k n => x10 (ix2 k n)) (1536 + j) (by omega) := by
  unfold act unit
  pointwise
  refine congrArg _ (Finset.sum_congr rfl fun k _ => congrArg (h k * ·) (congrArg x10 (congrArg (ix2 k) (Fin.ext ?_))))
  show 4352 + (j : ℕ) = 2816 + (1536 + j)
  omega

theorem out_apply (x : Fin 512) (n : Fin 1024) :
    Gen.out0_12 (F := Ideal) x0 x1 x2 x3 x4 x5 x6 x7 x8 x9 x10 x11 (ix3 0 x n) = layerRow x0 x1 x2 x3 x4 x5 x6 x7 x8 x9 x10 x11 x n := by
  unfold Gen.out0_12
  refine View.canon_eq_of_allAt _ _ _ (Gen.cover0_12 _ _) fun z hz => ?_
  rw [List.mem_singleton] at hz
  subst hz
  intro z hz
  have ez : z = (ix3 0 x n : S1x512x1024.Idx) := by
    rw [← hz]
    funext a
    refine Fin.ext ?_
    fin_cases a <;> simp
  rw [ez]
  refine (whole_apply (Gen.k0_pay15 (F := Ideal) x0 x1 x2 x3 x4 x5 x6 x7 x8 x9 x10 x11) (Gen.k0_pay16 (F := Ideal) x0 x1 x2 x3 x4 x5 x6 x7 x8 x9 x10 x11)
    (Gen.k0_pay17 (F := Ideal) x0 x1 x2 x3 x4 x5 x6 x7 x8 x9 x10 x11) (View.ld x6 Gen.r0_7) (View.ld x10 Gen.r0_8) (View.ld x10 Gen.r0_9) (View.ld x11 Gen.r0_10)
    (View.ld x10 Gen.r0_11) (View.ld x10 Gen.r0_12) (View.ld x11 Gen.r0_13) x n).trans ?_
  have eg : ∀ k : Fin 1024, View.ld x6 Gen.r0_7 (ix2 0 k : S1x1024.Idx) = x6 (ix2 0 k) := fun k => by pointwise
  have ef0 : ∀ j : Fin 1536, View.ld x11 Gen.r0_10 (ix2 j n : S1536x1024.Idx) = x11 (ix2 ⟨j, by omega⟩ n) := fun j => by pointwise
  have ef1 : ∀ j : Fin 1280, View.ld x11 Gen.r0_13 (ix2 j n : S1280x1024.Idx) = x11 (ix2 ⟨1536 + j, by omega⟩ n) := fun j => by pointwise
  have eh : pick (fun r k => normed (Gen.k0_pay15 (F := Ideal) x0 x1 x2 x3 x4 x5 x6 x7 x8 x9 x10 x11) (Gen.k0_pay16 (F := Ideal) x0 x1 x2 x3 x4 x5 x6 x7 x8 x9 x10 x11) (View.ld x6 Gen.r0_7) (ix2 r k))
      (fun r k => normed (Gen.k0_pay15 (F := Ideal) x0 x1 x2 x3 x4 x5 x6 x7 x8 x9 x10 x11) (Gen.k0_pay17 (F := Ideal) x0 x1 x2 x3 x4 x5 x6 x7 x8 x9 x10 x11) (View.ld x6 Gen.r0_7) (ix2 r k)) x
      = modulated (residRow x0 x1 x2 x3 x4 x5 x7 x8 x9 x) (fun n => x6 (ix2 0 n)) (fun n => x5 (ix3 0 4 n)) (fun n => x5 (ix3 0 3 n)) := by
    refine pick_eq _ _ (fun x => modulated (residRow x0 x1 x2 x3 x4 x5 x7 x8 x9 x) (fun n => x6 (ix2 0 n)) (fun n => x5 (ix3 0 4 n)) (fun n => x5 (ix3 0 3 n))) x
      (fun r => funext fun k => ?_) (fun r => funext fun k => ?_)
    · rw [normed_apply]
      simp only [mod_apply, upper_apply, eg]
    · rw [normed_apply]
      simp only [mod_apply, lower_apply, eg]
  rw [eh, pick_eq _ _ (fun x => residRow x0 x1 x2 x3 x4 x5 x7 x8 x9 x n) x (fun r => upper_apply x0 x1 x2 x3 x4 x5 x6 x7 x8 x9 x10 x11 r n)
    (fun r => lower_apply x0 x1 x2 x3 x4 x5 x6 x7 x8 x9 x10 x11 r n), mod_apply]
  simp only [act_first, act_second, ef0, ef1]
  exact (fed_split (residRow x0 x1 x2 x3 x4 x5 x7 x8 x9 x) (fun n => x5 (ix3 0 5 n)) (modulated (residRow x0 x1 x2 x3 x4 x5 x7 x8 x9 x) (fun n => x6 (ix2 0 n)) (fun n => x5 (ix3 0 4 n)) (fun n => x5 (ix3 0 3 n)))
    (fun k n => x10 (ix2 k n)) (fun k n => x11 (ix2 k n)) n).symm

end Cert.Proof.Ffn

end
-- ==== Proof.FfnArray.lean ====
/- The feed-forward kernel's result array after the run: block by block what the grid points store, read at an index. -/
module

public import proofs.«01_k».proof.Proof.FfnPoint
public import Idealize.ShloMosaic.Lib.Claim
public import Idealize.ShloMosaic.Lib.WholeRead

@[expose] public section

set_option maxRecDepth 16384

noncomputable section

namespace Cert.Proof.Ffn

open Cert.Kernel2Ideal Idealize.ShloMosaic Idealize.ShloMosaic.TcCoe Idealize.SL.Sem

variable (m : (ℓ : Loc nD τ sig) → Buf (Elt Ideal) ℓ) (c : Dev nD) (t : Fin cfg0.N)

/-- The batch of a grid point. -/
abbrev batchOf : Fin 16 := ⟨t / 8, by have : (t : ℕ) < 128 := t.isLt; omega⟩

/-- A row of a grid point's block among the tokens. -/
abbrev tokenOf (x : Fin 512) : Fin 4096 := ⟨512 * (t % 8) + x, by omega⟩

theorem index_tokens : ∀ t : Fin cfg0.N, (win0_0.index t 0 = t / 8 ∧ win0_0.index t 1 = t % 8 ∧ win0_0.index t 2 = 0)
    ∧ (win0_1.index t 0 = t / 8 ∧ win0_1.index t 1 = t % 8 ∧ win0_1.index t 2 = 0) ∧ (win0_2.index t 0 = t / 8 ∧ win0_2.index t 1 = t % 8 ∧ win0_2.index t 2 = 0)
    ∧ (win0_3.index t 0 = t / 8 ∧ win0_3.index t 1 = t % 8 ∧ win0_3.index t 2 = 0) ∧ (win0_4.index t 0 = t / 8 ∧ win0_4.index t 1 = t % 8 ∧ win0_4.index t 2 = 0) :=
  (by decide +kernel : ∀ t : Fin grid0.N, (win0_0.index t 0 = t / 8 ∧ win0_0.index t 1 = t % 8 ∧ win0_0.index t 2 = 0)
    ∧ (win0_1.index t 0 = t / 8 ∧ win0_1.index t 1 = t % 8 ∧ win0_1.index t 2 = 0) ∧ (win0_2.index t 0 = t / 8 ∧ win0_2.index t 1 = t % 8 ∧ win0_2.index t 2 = 0)
    ∧ (win0_3.index t 0 = t / 8 ∧ win0_3.index t 1 = t % 8 ∧ win0_3.index t 2 = 0) ∧ (win0_4.index t 0 = t / 8 ∧ win0_4.index t 1 = t % 8 ∧ win0_4.index t 2 = 0))

theorem index_out : ∀ t : Fin cfg0.N, win0_12.index t 0 = t / 8 ∧ win0_12.index t 1 = t % 8 ∧ win0_12.index t 2 = 0 :=
  (by decide +kernel : ∀ t : Fin grid0.N, win0_12.index t 0 = t / 8 ∧ win0_12.index t 1 = t % 8 ∧ win0_12.index t 2 = 0)

theorem index_mod : ∀ t : Fin cfg0.N, win0_5.index t 0 = t / 8 ∧ win0_5.index t 1 = 0 ∧ win0_5.index t 2 = 0 :=
  (by decide +kernel : ∀ t : Fin grid0.N, win0_5.index t 0 = t / 8 ∧ win0_5.index t 1 = 0 ∧ win0_5.index t 2 = 0)

theorem index_whole : ∀ t : Fin cfg0.N, (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = 0 ∧ win0_11.index t 1 = 0) :=
  (by decide +kernel : ∀ t : Fin grid0.N, (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = 0 ∧ win0_11.index t 1 = 0))

theorem block0 (x : Fin 512) (n : Fin 1024) : Gen.iblk m c 0 t (ix3 0 x n) = m ((c.tc : Thread nD τ).loc main_arg0) (ix3 (batchOf t) (tokenOf t x) n) := by
  blk_ext [Gen.iblk, Gen.V_main_arg0, index_tokens t]

theorem block1 (x : Fin 512) (k : Fin 512) : Gen.iblk m c 1 t (ix3 0 x k) = m ((c.tc : Thread nD τ).loc main_arg1) (ix3 (batchOf t) (tokenOf t x) k) := by
  blk_ext [Gen.iblk, Gen.V_main_arg1, index_tokens t]

theorem block2 (x : Fin 512) (k : Fin 512) : Gen.iblk m c 2 t (ix3 0 x k) = m ((c.tc : Thread nD τ).loc main_arg2) (ix3 (batchOf t) (tokenOf t x) k) := by
  blk_ext [Gen.iblk, Gen.V_main_arg2, index_tokens t]

theorem block3 (x : Fin 512) (n : Fin 1024) : Gen.iblk m c 3 t (ix3 0 x n) = m ((c.tc : Thread nD τ).loc main_arg3) (ix3 (batchOf t) (tokenOf t x) n) := by
  blk_ext [Gen.iblk, Gen.V_main_arg3, index_tokens t]

theorem block4 (x : Fin 512) (n : Fin 1024) : Gen.iblk m c 4 t (ix3 0 x n) = m ((c.tc : Thread nD τ).loc main_arg4) (ix3 (batchOf t) (tokenOf t x) n) := by
  blk_ext [Gen.iblk, Gen.V_main_arg4, index_tokens t]

theorem block5 (i : Fin 6) (n : Fin 1024) : Gen.iblk m c 5 t (ix3 0 i n) = m ((c.tc : Thread nD τ).loc main_arg5) (ix3 (batchOf t) i n) := by
  blk_ext [Gen.iblk, Gen.V_main_arg5, index_mod t]

theorem block6 (n : Fin 1024) : Gen.iblk m c 6 t (ix2 0 n) = m ((c.tc : Thread nD τ).loc main_arg6) (ix1 n) := by
  blk_point [Gen.iblk, Gen.V, index_whole t]

theorem block7 (k : Fin 512) (n : Fin 1024) : Gen.iblk m c 7 t (ix2 k n) = m ((c.tc : Thread nD τ).loc main_arg7) (ix2 k n) := by
  blk_point [Gen.iblk, Gen.V, index_whole t]

theorem block8 (k : Fin 512) (n : Fin 1024) : Gen.iblk m c 8 t (ix2 k n) = m ((c.tc : Thread nD τ).loc main_arg8) (ix2 k n) := by
  blk_point [Gen.iblk, Gen.V, index_whole t]

theorem block9 (k n : Fin 1024) : Gen.iblk m c 9 t (ix2 k n) = m ((c.tc : Thread nD τ).loc main_arg9) (ix2 k n) := by
  blk_point [Gen.iblk, Gen.V, index_whole t]

theorem block10 (k : Fin 1024) (n : Fin 5632) : Gen.iblk m c 10 t (ix2 k n) = m ((c.tc : Thread nD τ).loc main_arg10) (ix2 k n) := by
  blk_point [Gen.iblk, Gen.V, index_whole t]

theorem block11 (k : Fin 2816) (n : Fin 1024) : Gen.iblk m c 11 t (ix2 k n) = m ((c.tc : Thread nD τ).loc main_arg11) (ix2 k n) := by
  blk_point [Gen.iblk, Gen.V, index_whole t]

/-- What the layer gives at a token, from the kernel's arrays. -/
abbrev layerOf (b : Fin 16) (s : Fin 4096) : Fin 1024 → EReal :=
  layerAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) b s

theorem point_apply (x : Fin 512) (n : Fin 1024) : (Gen.dats m 0 c).after 12 t (ix3 0 x n : S1x512x1024.Idx) = layerOf m c (batchOf t) (tokenOf t x) n := by
  rw [Gen.after0_12]
  refine (out_apply _ _ _ _ _ _ _ _ _ _ _ _ x n).trans ?_
  unfold layerRow layerOf layerAt
  simp only [block0, block1, block2, block3, block4, block5, block6, block7, block8, block9, block10, block11]

/-- The kernel's result array after the run. -/
theorem array_eq : (Gen.dats m 0 c).arrAt 12 cfg0.N = fun i : S16x4096x1024.Idx => layerOf m c (i 0) (i 1) (i 2) := by
  refine (Gen.dats m 0 c).arrAt_eq_of_covers 12 _ (by decide +kernel) fun t hf y => ?_
  have b0 : (y 0 : ℕ) < 1 := (y 0).isLt
  have b1 : (y 1 : ℕ) < 512 := (y 1).isLt
  have b2 : (y 2 : ℕ) < 1024 := (y 2).isLt
  have ey : y = (ix3 0 ⟨(y 1 : ℕ), b1⟩ ⟨(y 2 : ℕ), b2⟩ : S1x512x1024.Idx) := by
    funext a
    fin_cases a
    · exact Fin.ext (by show (y 0 : ℕ) = 0; omega)
    · rfl
    · rfl
  have e0 : (win0_12.blk t).view.emb y 0 = batchOf t := Fin.ext (by blk_simp [index_out t])
  have e1 : (win0_12.blk t).view.emb y 1 = tokenOf t ⟨(y 1 : ℕ), b1⟩ := Fin.ext (by
    blk_simp [index_out t]
    show (t : ℕ) % 8 * 512 + (y 1 : ℕ) = 512 * (t % 8) + (y 1 : ℕ)
    omega)
  have e2 : (win0_12.blk t).view.emb y 2 = (⟨(y 2 : ℕ), b2⟩ : Fin 1024) := Fin.ext (by blk_simp [index_out t])
  refine (congrArg ((Gen.dats m 0 c).after 12 t) ey).trans ((point_apply m c t _ _).trans ?_)
  exact (congr (congr (congrArg (layerOf m c) e0) e1) e2).symm

end Cert.Proof.Ffn

end
-- ==== Proof.FfnRef.lean ====
/- The feed-forward reference's result, cut into named stages, each read at an index. -/
module

public import proofs.«01_k».proof.Proof.FeedForward
public import proofs.«01_k».proof.Proof.Gen.Reference2Ideal.Run
public import Idealize.ShloMosaic.Lib.Pointwise

@[expose] public section

set_option maxRecDepth 16384

noncomputable section

namespace Cert.Proof.FfnRef

open Cert.Reference2Ideal Idealize.ShloMosaic Idealize.ShloMosaic.TcCoe Idealize.SL.Sem
open Cert.Reference2Ideal.Facts₀ Cert.Reference2Ideal.Facts
open Cert.Proof.Ffn

/-- The two branches merged. -/
def merge (og od : FVec Ideal S16x4096x512 .bf16) (sg sd : FVec Ideal S16x4096x1024 .bf16) (wg wd : FVec Ideal S512x1024 .f32) : FVec Ideal S16x4096x1024 .f32 :=
  addf (mulf (extf .f32 sg bitsLt_bf16_f32) (Host.dotGeneral dot_S16x4096x512_S512x1024_S16x4096x1024_2_0_01_1_n_n none (extf .f32 og bitsLt_bf16_f32) wg))
    (mulf (extf .f32 sd bitsLt_bf16_f32) (Host.dotGeneral dot_S16x4096x512_S512x1024_S16x4096x1024_2_0_01_1_n_n none (extf .f32 od bitsLt_bf16_f32) wd))

/-- The residual. -/
def residual (x : FVec Ideal S16x4096x1024 .f32) (mod : FVec Ideal S16x6x1024 .f32) (u : FVec Ideal S16x4096x1024 .f32) (wo : FVec Ideal S1024x1024 .f32) :
    FVec Ideal S16x4096x1024 .f32 :=
  addf x (mulf (broadcastInDim S16x4096x1024 ![0, 1, 2] bcast_S16x1x1024_S16x4096x1024_0_1_2 (extractStridedSlice S16x1x1024 ![0, 2, 0] mod slices_S16x6x1024_S16x1x1024_0_2_0))
    (Host.dotGeneral dot_S16x4096x1024_S1024x1024_S16x4096x1024_2_0_01_1_n_n none u wo))

/-- The modulated norm. -/
def norm (r : FVec Ideal S16x4096x1024 .f32) (mod : FVec Ideal S16x6x1024 .f32) (g : FVec Ideal S1024 .f32) : FVec Ideal S16x4096x1024 .f32 :=
  addf (mulf (mulf (mulf r (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf r r) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S16x1x1024_S16x4096x1024_0_1_2
      (addf (broadcastInDim S16x1x1024 ![] bcast_S_S16x1x1024 (constant S_ .f32 0x3F800000#32)) (extractStridedSlice S16x1x1024 ![0, 4, 0] mod slices_S16x6x1024_S16x1x1024_0_4_0))))
    (broadcastInDim S16x4096x1024 ![0, 1, 2] bcast_S16x1x1024_S16x4096x1024_0_1_2 (extractStridedSlice S16x1x1024 ![0, 3, 0] mod slices_S16x6x1024_S16x1x1024_0_3_0))

/-- The gates and the values of the hidden units. -/
def wide (h : FVec Ideal S16x4096x1024 .f32) (wi : FVec Ideal S1024x5632 .f32) : FVec Ideal S16x4096x5632 .f32 :=
  Host.dotGeneral dot_S16x4096x1024_S1024x5632_S16x4096x5632_2_0_01_1_n_n none h wi

/-- The hidden units. -/
def hidden (w : FVec Ideal S16x4096x5632 .f32) : FVec Ideal S16x4096x2816 .f32 :=
  mulf (mulf (extractStridedSlice S16x4096x2816 ![0, 0, 0] w slices_S16x4096x5632_S16x4096x2816_0_0_0)
    (Host.divf (broadcastInDim S16x4096x2816 ![] bcast_S_S16x4096x2816 (constant S_ .f32 0x3F800000#32))
      (addf (broadcastInDim S16x4096x2816 ![] bcast_S_S16x4096x2816 (constant S_ .f32 0x3F800000#32))
        (Host.exp (Host.negf (extractStridedSlice S16x4096x2816 ![0, 0, 0] w slices_S16x4096x5632_S16x4096x2816_0_0_0))))))
    (extractStridedSlice S16x4096x2816 ![0, 0, 2816] w slices_S16x4096x5632_S16x4096x2816_0_0_2816)

/-- The result. -/
def finish (r : FVec Ideal S16x4096x1024 .f32) (mod : FVec Ideal S16x6x1024 .f32) (u : FVec Ideal S16x4096x2816 .f32) (wf : FVec Ideal S2816x1024 .f32) :
    FVec Ideal S16x4096x1024 .f32 :=
  addf r (mulf (broadcastInDim S16x4096x1024 ![0, 1, 2] bcast_S16x1x1024_S16x4096x1024_0_1_2 (extractStridedSlice S16x1x1024 ![0, 5, 0] mod slices_S16x6x1024_S16x1x1024_0_5_0))
    (Host.dotGeneral dot_S16x4096x2816_S2816x1024_S16x4096x1024_2_0_01_1_n_n none u wf))

/-- The stages together. -/
def whole (x : FVec Ideal S16x4096x1024 .f32) (og od : FVec Ideal S16x4096x512 .bf16) (sg sd : FVec Ideal S16x4096x1024 .bf16) (mod : FVec Ideal S16x6x1024 .f32)
    (g : FVec Ideal S1024 .f32) (wg wd : FVec Ideal S512x1024 .f32) (wo : FVec Ideal S1024x1024 .f32) (wi : FVec Ideal S1024x5632 .f32) (wf : FVec Ideal S2816x1024 .f32) :
    FVec Ideal S16x4096x1024 .f32 :=
  finish (residual x mod (merge og od sg sd wg wd) wo) mod (hidden (wide (norm (residual x mod (merge og od sg sd wg wd) wo) mod g) wi)) wf

theorem res_eq (m : (ℓ : Loc nD τ sig) → Buf (Elt Ideal) ℓ) (c : Dev nD) :
    Value.res_out0 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := by
  unfold Value.res_out0 Value.res_main_v44 whole finish hidden wide norm residual merge
  rfl

/-! ## The stages at an index -/

theorem merge_apply (og od : FVec Ideal S16x4096x512 .bf16) (sg sd : FVec Ideal S16x4096x1024 .bf16) (wg wd : FVec Ideal S512x1024 .f32)
    (b : Fin 16) (t : Fin 4096) (n : Fin 1024) :
    merge og od sg sd wg wd (ix3 b t n) = merged (fun k => og (ix3 b t k)) (fun k => od (ix3 b t k)) (fun n => sg (ix3 b t n)) (fun n => sd (ix3 b t n))
      (fun k n => wg (ix2 k n)) (fun k n => wd (ix2 k n)) n := by
  pointwise [merge, merged]

theorem residual_apply (x : FVec Ideal S16x4096x1024 .f32) (mod : FVec Ideal S16x6x1024 .f32) (u : FVec Ideal S16x4096x1024 .f32) (wo : FVec Ideal S1024x1024 .f32)
    (b : Fin 16) (t : Fin 4096) (n : Fin 1024) :
    residual x mod u wo (ix3 b t n) = resid (fun n => x (ix3 b t n)) (fun n => mod (ix3 b 2 n)) (fun n => u (ix3 b t n)) (fun k n => wo (ix2 k n)) n := by
  pointwise [residual, resid]

theorem norm_apply (r : FVec Ideal S16x4096x1024 .f32) (mod : FVec Ideal S16x6x1024 .f32) (g : FVec Ideal S1024 .f32) (b : Fin 16) (t : Fin 4096) (n : Fin 1024) :
    norm r mod g (ix3 b t n) = modulated (fun n => r (ix3 b t n)) (fun n => g (ix1 n)) (fun n => mod (ix3 b 4 n)) (fun n => mod (ix3 b 3 n)) n := by
  pointwise [norm, modulated]

theorem hidden_apply (h : FVec Ideal S16x4096x1024 .f32) (wi : FVec Ideal S1024x5632 .f32) (b : Fin 16) (t : Fin 4096) (j : Fin 2816) :
    hidden (wide h wi) (ix3 b t j) = unit (fun n => h (ix3 b t n)) (fun k n => wi (ix2 k n)) j j.isLt := by
  pointwise [hidden, wide, unit, Ideal.logistic]

theorem finish_apply (r : FVec Ideal S16x4096x1024 .f32) (mod : FVec Ideal S16x6x1024 .f32) (u : FVec Ideal S16x4096x2816 .f32) (wf : FVec Ideal S2816x1024 .f32)
    (b : Fin 16) (t : Fin 4096) (n : Fin 1024) :
    finish r mod u wf (ix3 b t n) = r (ix3 b t n) + mod (ix3 b 5 n) * ∑ j, u (ix3 b t j) * wf (ix2 j n) := by
  pointwise [finish]

theorem whole_apply (x : FVec Ideal S16x4096x1024 .f32) (og od : FVec Ideal S16x4096x512 .bf16) (sg sd : FVec Ideal S16x4096x1024 .bf16) (mod : FVec Ideal S16x6x1024 .f32)
    (g : FVec Ideal S1024 .f32) (wg wd : FVec Ideal S512x1024 .f32) (wo : FVec Ideal S1024x1024 .f32) (wi : FVec Ideal S1024x5632 .f32) (wf : FVec Ideal S2816x1024 .f32)
    (b : Fin 16) (t : Fin 4096) (n : Fin 1024) :
    whole x og od sg sd mod g wg wd wo wi wf (ix3 b t n) = layerAt x og od sg sd mod g wg wd wo wi wf b t n := by
  unfold whole layerAt layer fed
  rw [finish_apply]
  simp only [hidden_apply, norm_apply, residual_apply, merge_apply]

end Cert.Proof.FfnRef

end
-- ==== Proof.Projected.lean ====
/- The projection of a row of tokens, over the extended reals: a column of the projection, a head's root mean square norm, and
   the sum over a group of columns weighted by the averaging matrix as the mean over a head. -/
module

public import proofs.«01_k».proof.Proof.FeedForward

@[expose] public section

noncomputable section

namespace Cert.Proof.Proj

open Idealize.ShloMosaic

/-- The normed and modulated token, at a token of the arrays. -/
def rowAt (x : (⟨3, ![16, 4096, 1024]⟩ : Shape).Idx → EReal) (mod : (⟨3, ![16, 6, 1024]⟩ : Shape).Idx → EReal) (g : (⟨1, ![1024]⟩ : Shape).Idx → EReal)
    (b : Fin 16) (t : Fin 4096) : Fin 1024 → EReal :=
  Ffn.modulated (fun n => x (ix3 b t n)) (fun n => g (ix1 n)) (fun n => mod (ix3 b 1 n)) (fun n => mod (ix3 b 0 n))

/-- A column of a token's projection. -/
def column (h : Fin 1024 → EReal) (w : (⟨2, ![1024, 5136]⟩ : Shape).Idx → EReal) (o : ℕ) (ho : o < 5136) : EReal := ∑ k, h k * w (ix2 k ⟨o, ho⟩)

/-- An element over the root mean square of its head's 64, times the gain. -/
def headed (q : Fin 512 → EReal) (g : Fin 64 → EReal) (n : Fin 512) : EReal :=
  q n * Ideal.rsqrt (Ideal.div (∑ d : Fin 64, q ⟨64 * (n / 64) + d, by omega⟩ * q ⟨64 * (n / 64) + d, by omega⟩) (Ideal.ofBits .f32 0x42800000#32)
    + Ideal.ofBits .f32 0x358637BD#32) * g ⟨n % 64, by omega⟩

section
variable (x : (⟨3, ![16, 4096, 1024]⟩ : Shape).Idx → EReal) (mod : (⟨3, ![16, 6, 1024]⟩ : Shape).Idx → EReal) (g : (⟨1, ![1024]⟩ : Shape).Idx → EReal)
  (w : (⟨2, ![1024, 5136]⟩ : Shape).Idx → EReal) (u : (⟨1, ![64]⟩ : Shape).Idx → EReal) (b : Fin 16) (t : Fin 4096)

/-- A token's queries. -/
def queryAt (n : Fin 512) : EReal :=
  headed (fun j => column (rowAt x mod g b t) w (1552 + j) (by omega)) (fun d => u (ix1 d)) n * Ideal.ofBits .f32 0x3E38AA3B#32

/-- A token's keys. -/
def keyAt (n : Fin 512) : EReal := headed (fun j => column (rowAt x mod g b t) w (2064 + j) (by omega)) (fun d => u (ix1 d)) n

/-- A token's values. -/
def valueAt (n : Fin 512) : EReal := column (rowAt x mod g b t) w (2576 + n) (by omega)

/-- A token's gates, `o` columns after the values. -/
def gateAt (o : ℕ) (ho : o ≤ 1024) (n : Fin 1024) : EReal := Ideal.logistic (column (rowAt x mod g b t) w (3088 + o + n) (by omega))

end

theorem column_congr (h : Fin 1024 → EReal) (w : (⟨2, ![1024, 5136]⟩ : Shape).Idx → EReal) {o p : ℕ} (ho : o < 5136) (hp : p < 5136) (e : o = p) :
    column h w o ho = column h w p hp := by
  subst e
  rfl

theorem ofBits_64 : Ideal.ofBits .f32 0x42800000#32 = ((64 : ℝ) : EReal) := by
  simp [Ideal.ofBits, Ideal.ieee, -EReal.coe_mul]
  norm_num

theorem ofBits_sixtyfourth : Ideal.ofBits .f32 0x3C800000#32 = ((1 / 64 : ℝ) : EReal) := by
  simp [Ideal.ofBits, Ideal.ieee, -EReal.coe_mul]
  norm_num

theorem square_nonneg (x : EReal) : 0 ≤ x * x := by
  induction x using EReal.rec with
  | bot => simp
  | top => simp
  | coe r => exact_mod_cast mul_self_nonneg r

theorem sum_mul_nonneg {ι : Type} (s : Finset ι) (f : ι → EReal) (hf : ∀ i, 0 ≤ f i) (c : EReal) : ∑ i ∈ s, f i * c = (∑ i ∈ s, f i) * c := by
  classical
  induction s using Finset.induction_on with
  | empty => simp
  | insert a s ha ih => rw [Finset.sum_insert ha, Finset.sum_insert ha, ih, EReal.right_distrib_of_nonneg (hf a) (Finset.sum_nonneg fun i _ => hf i)]

/-- The sum over a group of 256 columns against a column of the averaging matrix is the mean over that column's head. -/
theorem group_mean (f : Fin 256 → EReal) (hf : ∀ j, 0 ≤ f j) (n : Fin 256) :
    ∑ j : Fin 256, f j * (if (j : ℕ) / 64 = n / 64 then Ideal.ofBits .f32 0x3C800000#32 else 0)
      = Ideal.div (∑ d : Fin 64, f ⟨64 * (n / 64) + d, by omega⟩) (Ideal.ofBits .f32 0x42800000#32) := by
  rw [ofBits_64, ofBits_sixtyfourth, Ideal.div_coe (by norm_num), ← sum_mul_nonneg _ _ fun d => hf _,
    ← (finProdFinEquiv (m := 4) (n := 64)).sum_comp, Fintype.sum_prod_type, Finset.sum_eq_single ⟨n / 64, by omega⟩]
  · refine Finset.sum_congr rfl fun d _ => ?_
    have e : (finProdFinEquiv (m := 4) (n := 64)) (⟨n / 64, by omega⟩, d) = ⟨64 * (n / 64) + d, by omega⟩ := Fin.ext (by simp [finProdFinEquiv]; omega)
    rw [e, if_pos (show (64 * ((n : ℕ) / 64) + d) / 64 = n / 64 by omega)]
  · intro a _ ha
    refine Finset.sum_eq_zero fun d _ => ?_
    have e : (((finProdFinEquiv (m := 4) (n := 64)) (a, d) : Fin 256) : ℕ) = d + 64 * a := by simp [finProdFinEquiv]
    rw [e, if_neg, mul_zero]
    intro h
    exact ha (Fin.ext (by show (a : ℕ) = n / 64; omega))
  · intro h
    exact absurd (Finset.mem_univ _) h

end Cert.Proof.Proj

end
-- ==== Proof.ProjTerm.lean ====
/- What one grid point of the projection kernel stores in the results other than the gated linear attention's, written once:
   the normed block of tokens, the queries and keys normed by heads, the values across, and the gates by slabs of 256 columns.
   The run's stored pieces are these, at the first block of a batch and at the later ones. -/
module

public import proofs.«01_k».proof.Proof.Gen.Kernel3Ideal.Value

@[expose] public section

set_option maxRecDepth 16384

noncomputable section

namespace Cert.Proof.Proj

open Cert.Kernel3Ideal Idealize.ShloMosaic Idealize.ShloMosaic.TcCoe Idealize.SL.Sem
open Cert.Kernel3Ideal.Facts₀ Cert.Kernel3Ideal.Facts

variable {F : FTy → Type} [FloatOps F]

/-- What a grid point reads: the modulation, the two halves of its tokens, the gain, the columns of the projection's matrix for the
    queries, keys, values and the slabs of the gates, the matrix that averages over heads, and the heads' gains. -/
structure Reads (F : FTy → Type) [FloatOps F] where
  mod : Vec F S1x6x1024 .f32
  top : Vec F S1x256x1024 .f32
  bot : Vec F S1x256x1024 .f32
  g : Vec F S1x1024 .f32
  wq : Vec F S1024x640 .bf16
  wk : Vec F S1024x512 .bf16
  wv : Vec F S1024x512 .bf16
  wg : ℕ → Vec F S1024x256 .bf16
  grp : Vec F S256x256 .bf16
  gq : Vec F S1x512 .f32
  gk : Vec F S1x512 .f32

/-- The projected columns of the queries. -/
def Reads.q (R : Reads F) : FVec F S512x512 .f32 :=
  Gen.k0_pay9 (Gen.k0_pay2 R.mod) (Gen.k0_pay5 R.mod R.top R.g R.wq) (Gen.k0_pay6 R.bot) R.g R.wq

/-- The normed block. -/
def Reads.h (R : Reads F) : FVec F S512x1024 .bf16 :=
  Gen.k0_pay10 (Gen.k0_pay2 R.mod) (Gen.k0_pay4 R.mod R.top R.g) (Gen.k0_pay6 R.bot) R.g

/-- The queries normed by heads, scaled. -/
def queryBlock (q : FVec F S512x512 .f32) (grp : Vec F S256x256 .bf16) (g : Vec F S1x512 .f32) : FVec F S1x512x512 .bf16 :=
  Gen.k0_pay52 q (Gen.k0_pay49 q grp) (Gen.k0_pay50 q) (Gen.k0_pay51 grp) (constant S512x256 .f32 0x00000000#32) g

/-- The keys normed by heads. -/
def keyBlock (k : FVec F S512x512 .f32) (grp : Vec F S256x256 .bf16) (g : Vec F S1x512 .f32) : FVec F S1x512x512 .bf16 :=
  Gen.k0_pay64 k (Gen.k0_pay62 k) (Gen.k0_pay63 k) grp grp g

theorem inbWhole : ∀ a, (![0, 0, 0] : Fin 3 → ℕ) a + S1x512x512.size a ≤ S1x512x512.size a := by decide

theorem inbGate (s : ℕ) : ∀ a, (![0, 0, 256 * (s % 4)] : Fin 3 → ℕ) a + S1x512x256.size a ≤ S1x512x1024.size a := by
  have := Nat.mod_lt s (show 0 < 4 by decide)
  intro a
  fin_cases a <;> simp [S1x512x256, S1x512x1024] <;> omega

/-- A slab of the gates' columns. -/
abbrev gateRect (s : ℕ) : Rect S1x512x1024 := Rect.unit ![0, 0, 256 * (s % 4)] S1x512x256.size (inbGate s)

/-- The pieces stored in each result, last first. -/
def Reads.queries (R : Reads F) : List (View.Piece (Elt F) S1x512x512 .bf16) := [⟨Rect.unit ![0, 0, 0] S1x512x512.size inbWhole, queryBlock R.q R.grp R.gq⟩]
def Reads.keys (R : Reads F) : List (View.Piece (Elt F) S1x512x512 .bf16) := [⟨Rect.unit ![0, 0, 0] S1x512x512.size inbWhole, keyBlock (Gen.k0_pay46 R.h R.wk) R.grp R.gk⟩]
def Reads.values (R : Reads F) : List (View.Piece (Elt F) S1x512x512 .bf16) := [⟨Rect.unit ![0, 0, 0] S1x512x512.size inbWhole, Gen.k0_pay75 R.h R.wv⟩]
def Reads.gates (R : Reads F) (o : ℕ) : List (View.Piece (Elt F) S1x512x1024 .bf16) :=
  [⟨gateRect 3, Gen.k0_pay80 R.h (R.wg (o + 3))⟩, ⟨gateRect 2, Gen.k0_pay80 R.h (R.wg (o + 2))⟩, ⟨gateRect 1, Gen.k0_pay80 R.h (R.wg (o + 1))⟩, ⟨gateRect 0, Gen.k0_pay80 R.h (R.wg o)⟩]

theorem inbMod : ∀ a, (![0, 0, 0] : Fin 3 → ℕ) a + S1x6x1024.size a ≤ S1x6x1024.size a := by decide
theorem inbTop : ∀ a, (![0, 0, 0] : Fin 3 → ℕ) a + S1x256x1024.size a ≤ S1x512x1024.size a := by decide
theorem inbBot : ∀ a, (![0, 256, 0] : Fin 3 → ℕ) a + S1x256x1024.size a ≤ S1x512x1024.size a := by decide
theorem inbRow : ∀ a, (![0, 0] : Fin 2 → ℕ) a + S1x1024.size a ≤ S1x1024.size a := by decide
theorem inbQ : ∀ a, (![0, 1536] : Fin 2 → ℕ) a + S1024x640.size a ≤ S1024x5248.size a := by decide
theorem inbK : ∀ a, (![0, 2176] : Fin 2 → ℕ) a + S1024x512.size a ≤ S1024x5248.size a := by decide
theorem inbV : ∀ a, (![0, 2688] : Fin 2 → ℕ) a + S1024x512.size a ≤ S1024x5248.size a := by decide
theorem inbG (s : ℕ) : ∀ a, (![0, 3200 + 256 * (s % 8)] : Fin 2 → ℕ) a + S1024x256.size a ≤ S1024x5248.size a := by
  have := Nat.mod_lt s (show 0 < 8 by decide)
  intro a
  fin_cases a <;> simp [S1024x256, S1024x5248] <;> omega
theorem inbGrp : ∀ a, (![0, 0] : Fin 2 → ℕ) a + S256x256.size a ≤ S256x256.size a := by decide
theorem inbGain : ∀ a, (![0, 0] : Fin 2 → ℕ) a + S1x512.size a ≤ S1x512.size a := by decide

/-- A slab of the gates' columns in the projection's matrix. -/
abbrev slabRect (s : ℕ) : Rect S1024x5248 := Rect.unit ![0, 3200 + 256 * (s % 8)] S1024x256.size (inbG s)

section
variable (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5248 .bf16) (harg5 : arg5.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole)
    (x0 : Vec F S1x512x1024 .f32) (x1 : Vec F S1x6x1024 .f32) (x2 : Vec F S1x1024 .f32) (x3 : Vec F S1024x5248 .bf16) (x6 : Vec F S256x256 .bf16) (x7 x8 : Vec F S1x512 .f32)

/-- What the staging buffers hand to a grid point. -/
def reads : Reads F where
  mod := View.readAt (Elt F) arg3.view (Rect.unit ![0, 0, 0] S1x6x1024.size inbMod : Rect S1x6x1024).toLoadRect (harg3.unread x1)
  top := View.readAt (Elt F) arg2.view (Rect.unit ![0, 0, 0] S1x256x1024.size inbTop : Rect S1x512x1024).toLoadRect (harg2.unread x0)
  bot := View.readAt (Elt F) arg2.view (Rect.unit ![0, 256, 0] S1x256x1024.size inbBot : Rect S1x512x1024).toLoadRect (harg2.unread x0)
  g := View.readAt (Elt F) arg4.view (Rect.unit ![0, 0] S1x1024.size inbRow : Rect S1x1024).toLoadRect (harg4.unread x2)
  wq := View.readAt (Elt F) arg5.view (Rect.unit ![0, 1536] S1024x640.size inbQ : Rect S1024x5248).toLoadRect (harg5.unread x3)
  wk := View.readAt (Elt F) arg5.view (Rect.unit ![0, 2176] S1024x512.size inbK : Rect S1024x5248).toLoadRect (harg5.unread x3)
  wv := View.readAt (Elt F) arg5.view (Rect.unit ![0, 2688] S1024x512.size inbV : Rect S1024x5248).toLoadRect (harg5.unread x3)
  wg s := View.readAt (Elt F) arg5.view (slabRect s).toLoadRect (harg5.unread x3)
  grp := View.readAt (Elt F) arg8.view (Rect.unit ![0, 0] S256x256.size inbGrp : Rect S256x256).toLoadRect (harg8.unread x6)
  gq := View.readAt (Elt F) arg9.view (Rect.unit ![0, 0] S1x512.size inbGain : Rect S1x512).toLoadRect (harg9.unread x7)
  gk := View.readAt (Elt F) arg10.view (Rect.unit ![0, 0] S1x512.size inbGain : Rect S1x512).toLoadRect (harg10.unread x8)

end

section
variable (dev : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5248 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S128x256 .f32) (harg18 : arg18.IsWhole) (hc0 : Gen.cond0_0 i)
    (x0 : Vec F S1x512x1024 .f32) (x1 : Vec F S1x6x1024 .f32) (x2 : Vec F S1x1024 .f32) (x3 : Vec F S1024x5248 .bf16) (x4 : Vec F S128x256 .bf16) (x5 : Vec F S1x256 .f32) (x6 : Vec F S256x256 .bf16) (x7 : Vec F S1x512 .f32) (x8 : Vec F S1x512 .f32) (x9 : Vec F S1x128 .f32)

theorem piecesA : (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1 = (reads arg2 harg2 arg3 harg3 arg4 harg4 arg5 harg5 arg8 harg8 arg9 harg9 arg10 harg10 x0 x1 x2 x3 x6 x7 x8).queries
    ∧ (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1 = (reads arg2 harg2 arg3 harg3 arg4 harg4 arg5 harg5 arg8 harg8 arg9 harg9 arg10 harg10 x0 x1 x2 x3 x6 x7 x8).keys
    ∧ (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1 = (reads arg2 harg2 arg3 harg3 arg4 harg4 arg5 harg5 arg8 harg8 arg9 harg9 arg10 harg10 x0 x1 x2 x3 x6 x7 x8).values
    ∧ (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1 = (reads arg2 harg2 arg3 harg3 arg4 harg4 arg5 harg5 arg8 harg8 arg9 harg9 arg10 harg10 x0 x1 x2 x3 x6 x7 x8).gates 0
    ∧ (Gen.kernelRun0_A dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1 = (reads arg2 harg2 arg3 harg3 arg4 harg4 arg5 harg5 arg8 harg8 arg9 harg9 arg10 harg10 x0 x1 x2 x3 x6 x7 x8).gates 4 := by
  refine ⟨?_, ?_, ?_, ?_, ?_⟩
  · sl_kernel_rfl
  · sl_kernel_rfl
  · sl_kernel_rfl
  · sl_kernel_rfl
  · sl_kernel_rfl

end

section
variable (dev : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5248 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S128x256 .f32) (harg18 : arg18.IsWhole) (hc0 : ¬Gen.cond0_0 i)
    (x0 : Vec F S1x512x1024 .f32) (x1 : Vec F S1x6x1024 .f32) (x2 : Vec F S1x1024 .f32) (x3 : Vec F S1024x5248 .bf16) (x4 : Vec F S128x256 .bf16) (x5 : Vec F S1x256 .f32) (x6 : Vec F S256x256 .bf16) (x7 : Vec F S1x512 .f32) (x8 : Vec F S1x512 .f32) (x9 : Vec F S1x128 .f32) (xs0 : Vec F S128x256 .f32)

theorem piecesB : (Gen.kernelRun0_B dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.1 = (reads arg2 harg2 arg3 harg3 arg4 harg4 arg5 harg5 arg8 harg8 arg9 harg9 arg10 harg10 x0 x1 x2 x3 x6 x7 x8).queries
    ∧ (Gen.kernelRun0_B dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.1 = (reads arg2 harg2 arg3 harg3 arg4 harg4 arg5 harg5 arg8 harg8 arg9 harg9 arg10 harg10 x0 x1 x2 x3 x6 x7 x8).keys
    ∧ (Gen.kernelRun0_B dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.1 = (reads arg2 harg2 arg3 harg3 arg4 harg4 arg5 harg5 arg8 harg8 arg9 harg9 arg10 harg10 x0 x1 x2 x3 x6 x7 x8).values
    ∧ (Gen.kernelRun0_B dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.2.1 = (reads arg2 harg2 arg3 harg3 arg4 harg4 arg5 harg5 arg8 harg8 arg9 harg9 arg10 harg10 x0 x1 x2 x3 x6 x7 x8).gates 0
    ∧ (Gen.kernelRun0_B dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0).2.2.2.2.2.1 = (reads arg2 harg2 arg3 harg3 arg4 harg4 arg5 harg5 arg8 harg8 arg9 harg9 arg10 harg10 x0 x1 x2 x3 x6 x7 x8).gates 4 := by
  refine ⟨?_, ?_, ?_, ?_, ?_⟩
  · sl_kernel_rfl
  · sl_kernel_rfl
  · sl_kernel_rfl
  · sl_kernel_rfl
  · sl_kernel_rfl

end

end Cert.Proof.Proj

end
-- ==== Proof.ProjPoint.lean ====
/- The blocks of the projection kernel read at an index: the upper and lower halves of a block go through the same steps, and
   the averaging matrix gives each column the mean over its head. -/
module

public import proofs.«01_k».proof.Proof.Projected
public import proofs.«01_k».proof.Proof.FfnPoint
public import proofs.«01_k».proof.Proof.ProjTerm

@[expose] public section

set_option maxRecDepth 16384

noncomputable section

namespace Cert.Proof.Proj

open Cert.Kernel3Ideal Idealize.ShloMosaic Idealize.ShloMosaic.TcCoe Idealize.SL.Sem
open Cert.Kernel3Ideal.Facts₀ Cert.Kernel3Ideal.Facts

theorem upper_apply (mod : Vec Ideal S1x6x1024 .f32) (x : Vec Ideal S1x256x1024 .f32) (g : Vec Ideal S1x1024 .f32) (r : Fin 256) (n : Fin 1024) :
    Gen.k0_pay4 mod x g (ix2 r n)
      = Ffn.modulated (fun n => x (ix3 0 r n)) (fun n => g (ix2 0 n)) (fun n => mod (ix3 0 1 n)) (fun n => mod (ix3 0 0 n)) n := by
  pointwise [Gen.k0_pay4, Gen.k0_pay2, Ffn.modulated]

theorem lower_apply (mod : Vec Ideal S1x6x1024 .f32) (x : Vec Ideal S1x256x1024 .f32) (g : Vec Ideal S1x1024 .f32) (r : Fin 256) (n : Fin 1024) :
    Gen.k0_pay7 (Gen.k0_pay2 mod) (Gen.k0_pay6 x) g (ix2 r n)
      = Ffn.modulated (fun n => x (ix3 0 r n)) (fun n => g (ix2 0 n)) (fun n => mod (ix3 0 1 n)) (fun n => mod (ix3 0 0 n)) n := by
  pointwise [Gen.k0_pay7, Gen.k0_pay2, Gen.k0_pay6, Ffn.modulated]

/-- A row of the normed block. -/
def Reads.row (R : Reads Ideal) : Fin 512 → Fin 1024 → EReal :=
  Ffn.pick (fun r => Ffn.modulated (fun n => R.top (ix3 0 r n)) (fun n => R.g (ix2 0 n)) (fun n => R.mod (ix3 0 1 n)) (fun n => R.mod (ix3 0 0 n)))
    (fun r => Ffn.modulated (fun n => R.bot (ix3 0 r n)) (fun n => R.g (ix2 0 n)) (fun n => R.mod (ix3 0 1 n)) (fun n => R.mod (ix3 0 0 n)))

theorem h_halves (R : Reads Ideal) (x : Fin 512) (n : Fin 1024) :
    R.h (ix2 x n) = if h : (x : ℕ) < 256 then Gen.k0_pay4 R.mod R.top R.g (ix2 ⟨x, h⟩ n)
      else Gen.k0_pay7 (Gen.k0_pay2 R.mod) (Gen.k0_pay6 R.bot) R.g (ix2 ⟨x - 256, by omega⟩ n) := by
  unfold Reads.h Gen.k0_pay10
  generalize Gen.k0_pay4 R.mod R.top R.g = a
  generalize Gen.k0_pay7 (Gen.k0_pay2 R.mod) (Gen.k0_pay6 R.bot) R.g = b
  pointwise

theorem q_halves (R : Reads Ideal) (x n : Fin 512) :
    R.q (ix2 x n) = if h : (x : ℕ) < 256 then ∑ k, Gen.k0_pay4 R.mod R.top R.g (ix2 ⟨x, h⟩ k) * R.wq (ix2 k ⟨n, by omega⟩)
      else ∑ k, Gen.k0_pay7 (Gen.k0_pay2 R.mod) (Gen.k0_pay6 R.bot) R.g (ix2 ⟨x - 256, by omega⟩ k) * R.wq (ix2 k ⟨n, by omega⟩) := by
  unfold Reads.q Gen.k0_pay9 Gen.k0_pay8 Gen.k0_pay5
  generalize Gen.k0_pay4 R.mod R.top R.g = a
  generalize Gen.k0_pay7 (Gen.k0_pay2 R.mod) (Gen.k0_pay6 R.bot) R.g = b
  pointwise

theorem h_apply (R : Reads Ideal) (x : Fin 512) (n : Fin 1024) : R.h (ix2 x n) = R.row x n := by
  rw [h_halves]
  unfold Reads.row Ffn.pick
  split
  · exact upper_apply _ _ _ _ _
  · exact lower_apply _ _ _ _ _

theorem q_apply (R : Reads Ideal) (x : Fin 512) (n : Fin 512) : R.q (ix2 x n) = ∑ k, R.row x k * R.wq (ix2 k ⟨n, by omega⟩) := by
  rw [q_halves]
  unfold Reads.row Ffn.pick
  split
  · exact Finset.sum_congr rfl fun k _ => congrArg (· * _) (upper_apply _ _ _ _ _)
  · exact Finset.sum_congr rfl fun k _ => congrArg (· * _) (lower_apply _ _ _ _ _)

/-- The mean over a column's head, from the two groups of 256 columns. -/
theorem mean_eq (q : Fin 512 → EReal) (n : Fin 512) :
    (if h : (n : ℕ) < 256 then ∑ j : Fin 256, q ⟨j, by omega⟩ * q ⟨j, by omega⟩ * (if (j : ℕ) / 64 = n / 64 then Ideal.ofBits .f32 0x3C800000#32 else 0)
      else ∑ j : Fin 256, q ⟨256 + j, by omega⟩ * q ⟨256 + j, by omega⟩ * (if (j : ℕ) / 64 = (n - 256) / 64 then Ideal.ofBits .f32 0x3C800000#32 else 0))
      = Ideal.div (∑ d : Fin 64, q ⟨64 * (n / 64) + d, by omega⟩ * q ⟨64 * (n / 64) + d, by omega⟩) (Ideal.ofBits .f32 0x42800000#32) := by
  split
  · rename_i h
    exact group_mean (fun j => q ⟨j, by omega⟩ * q ⟨j, by omega⟩) (fun j => square_nonneg _) ⟨n, h⟩
  · rename_i h
    refine (group_mean (fun j => q ⟨256 + j, by omega⟩ * q ⟨256 + j, by omega⟩) (fun j => square_nonneg _) ⟨n - 256, by omega⟩).trans ?_
    refine congrArg (Ideal.div · _) (Finset.sum_congr rfl fun d _ => ?_)
    have e : (⟨256 + (64 * (((n : ℕ) - 256) / 64) + d), by omega⟩ : Fin 512) = ⟨64 * (n / 64) + d, by omega⟩ := Fin.ext (by
      show 256 + (64 * (((n : ℕ) - 256) / 64) + d) = 64 * (n / 64) + d
      omega)
    exact congrArg (fun i => q i * q i) e

theorem queryBlock_apply (q : FVec Ideal S512x512 .f32) (grp : Vec Ideal S256x256 .bf16) (g : Vec Ideal S1x512 .f32)
    (hg : ∀ a b : Fin 256, grp (ix2 a b) = if (a : ℕ) / 64 = b / 64 then Ideal.ofBits .f32 0x3C800000#32 else 0) (u : Fin 64 → EReal)
    (hu : ∀ n : Fin 512, g (ix2 0 n) = u ⟨n % 64, by omega⟩) (x n : Fin 512) :
    queryBlock q grp g (ix3 0 x n) = headed (fun n => q (ix2 x n)) u n * Ideal.ofBits .f32 0x3E38AA3B#32 := by
  unfold headed
  rw [← mean_eq (fun n => q (ix2 x n)), ← hu]
  pointwise [queryBlock, Gen.k0_pay52, Gen.k0_pay49, Gen.k0_pay50, Gen.k0_pay51, Gen.k0_pay48]
  simp only [hg]

theorem keyBlock_apply (q : FVec Ideal S512x512 .f32) (grp : Vec Ideal S256x256 .bf16) (g : Vec Ideal S1x512 .f32)
    (hg : ∀ a b : Fin 256, grp (ix2 a b) = if (a : ℕ) / 64 = b / 64 then Ideal.ofBits .f32 0x3C800000#32 else 0) (u : Fin 64 → EReal)
    (hu : ∀ n : Fin 512, g (ix2 0 n) = u ⟨n % 64, by omega⟩) (x n : Fin 512) :
    keyBlock q grp g (ix3 0 x n) = headed (fun n => q (ix2 x n)) u n := by
  unfold headed
  rw [← mean_eq (fun n => q (ix2 x n)), ← hu]
  pointwise [keyBlock, Gen.k0_pay64, Gen.k0_pay62, Gen.k0_pay63]
  simp only [hg]

theorem key_apply (h : FVec Ideal S512x1024 .bf16) (w : Vec Ideal S1024x512 .bf16) (x n : Fin 512) :
    Gen.k0_pay46 h w (ix2 x n) = ∑ k, h (ix2 x k) * w (ix2 k n) := by
  pointwise [Gen.k0_pay46]

theorem value_apply (h : FVec Ideal S512x1024 .bf16) (w : Vec Ideal S1024x512 .bf16) (x n : Fin 512) :
    Gen.k0_pay75 h w (ix3 0 n x) = ∑ k, h (ix2 x k) * w (ix2 k n) := by
  pointwise [Gen.k0_pay75]

theorem gate_apply (h : FVec Ideal S512x1024 .bf16) (w : Vec Ideal S1024x256 .bf16) (x : Fin 512) (n : Fin 256) :
    Gen.k0_pay80 h w (ix3 0 x n) = Ideal.logistic (∑ k, h (ix2 x k) * w (ix2 k n)) := by
  pointwise [Gen.k0_pay80]

end Cert.Proof.Proj

end
-- ==== Proof.ProjBlock.lean ====
/- The blocks that the projection kernel's grid points are handed, read off the arrays. -/
module

public import proofs.«01_k».proof.Proof.ProjPoint
public import Idealize.ShloMosaic.Lib.Claim
public import Idealize.ShloMosaic.Lib.WholeRead

@[expose] public section

set_option maxRecDepth 16384

noncomputable section

namespace Cert.Proof.Proj

open Cert.Kernel3Ideal Idealize.ShloMosaic Idealize.ShloMosaic.TcCoe Idealize.SL.Sem
open Cert.Kernel3Ideal.Facts₀ Cert.Kernel3Ideal.Facts

variable (m : (ℓ : Loc nD τ sig) → Buf (Elt Ideal) ℓ) (c : Dev nD) (t : Fin cfg0.N)

/-- The batch of a grid point. -/
abbrev batchOf : Fin 16 := ⟨t / 8, by have : (t : ℕ) < 128 := t.isLt; omega⟩

/-- A row of a grid point's block among the tokens. -/
abbrev tokenOf (x : Fin 512) : Fin 4096 := ⟨512 * (t % 8) + x, by omega⟩

theorem index_tokens : ∀ t : Fin cfg0.N, (win0_0.index t 0 = t / 8 ∧ win0_0.index t 1 = t % 8 ∧ win0_0.index t 2 = 0)
    ∧ (win0_1.index t 0 = t / 8 ∧ win0_1.index t 1 = 0 ∧ win0_1.index t 2 = 0) :=
  (by decide +kernel : ∀ t : Fin grid0.N, (win0_0.index t 0 = t / 8 ∧ win0_0.index t 1 = t % 8 ∧ win0_0.index t 2 = 0)
    ∧ (win0_1.index t 0 = t / 8 ∧ win0_1.index t 1 = 0 ∧ win0_1.index t 2 = 0))

theorem index_whole : ∀ t : Fin cfg0.N, (win0_2.index t 0 = 0 ∧ win0_2.index t 1 = 0) ∧ (win0_3.index t 0 = 0 ∧ win0_3.index t 1 = 0)
    ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, (win0_2.index t 0 = 0 ∧ win0_2.index t 1 = 0) ∧ (win0_3.index t 0 = 0 ∧ win0_3.index t 1 = 0)
    ∧ (win0_6.index t 0 = 0 ∧ win0_6.index t 1 = 0) ∧ (win0_7.index t 0 = 0 ∧ win0_7.index t 1 = 0) ∧ (win0_8.index t 0 = 0 ∧ win0_8.index t 1 = 0))

theorem index_out : ∀ t : Fin cfg0.N, (win0_11.index t 0 = t / 8 ∧ win0_11.index t 1 = t % 8 ∧ win0_11.index t 2 = 0)
    ∧ (win0_12.index t 0 = t / 8 ∧ win0_12.index t 1 = t % 8 ∧ win0_12.index t 2 = 0) ∧ (win0_13.index t 0 = t / 8 ∧ win0_13.index t 1 = 0 ∧ win0_13.index t 2 = t % 8)
    ∧ (win0_14.index t 0 = t / 8 ∧ win0_14.index t 1 = t % 8 ∧ win0_14.index t 2 = 0) ∧ (win0_15.index t 0 = t / 8 ∧ win0_15.index t 1 = t % 8 ∧ win0_15.index t 2 = 0) :=
  (by decide +kernel : ∀ t : Fin grid0.N, (win0_11.index t 0 = t / 8 ∧ win0_11.index t 1 = t % 8 ∧ win0_11.index t 2 = 0)
    ∧ (win0_12.index t 0 = t / 8 ∧ win0_12.index t 1 = t % 8 ∧ win0_12.index t 2 = 0) ∧ (win0_13.index t 0 = t / 8 ∧ win0_13.index t 1 = 0 ∧ win0_13.index t 2 = t % 8)
    ∧ (win0_14.index t 0 = t / 8 ∧ win0_14.index t 1 = t % 8 ∧ win0_14.index t 2 = 0) ∧ (win0_15.index t 0 = t / 8 ∧ win0_15.index t 1 = t % 8 ∧ win0_15.index t 2 = 0))

theorem block0 (x : Fin 512) (n : Fin 1024) : Gen.iblk m c 0 t (ix3 0 x n) = m ((c.tc : Thread nD τ).loc main_arg0) (ix3 (batchOf t) (tokenOf t x) n) := by
  blk_ext [Gen.iblk, Gen.V_main_arg0, index_tokens t]

theorem block1 (i : Fin 6) (n : Fin 1024) : Gen.iblk m c 1 t (ix3 0 i n) = m ((c.tc : Thread nD τ).loc main_arg1) (ix3 (batchOf t) i n) := by
  blk_ext [Gen.iblk, Gen.V_main_arg1, index_tokens t]

/-- The columns of the projection's matrix in the kernel's order. -/
def permuted (w : FVec Ideal S1024x5136 .f32) : FVec Ideal S1024x5248 .bf16 :=
  concatenate S1024x5248 1
    [⟨S1024x1536, extractStridedSlice S1024x1536 ![0, 0] (truncf .bf16 w bitsLt_bf16_f32 : FVec Ideal S1024x5136 .bf16) slices_S1024x5136_S1024x1536_0_0⟩,
     ⟨S1024x512, extractStridedSlice S1024x512 ![0, 1552] (truncf .bf16 w bitsLt_bf16_f32 : FVec Ideal S1024x5136 .bf16) slices_S1024x5136_S1024x512_0_1552⟩,
     ⟨S1024x16, extractStridedSlice S1024x16 ![0, 1536] (truncf .bf16 w bitsLt_bf16_f32 : FVec Ideal S1024x5136 .bf16) slices_S1024x5136_S1024x16_0_1536⟩,
     ⟨S1024x112, broadcastInDim S1024x112 ![] bcast_S_S1024x112 (constant S_ .bf16 0x0000#16 : FVec Ideal S_ .bf16)⟩,
     ⟨S1024x3072, extractStridedSlice S1024x3072 ![0, 2064] (truncf .bf16 w bitsLt_bf16_f32 : FVec Ideal S1024x5136 .bf16) slices_S1024x5136_S1024x3072_0_2064⟩]
    concatenates_S1024x1536_S1024x512_S1024x16_S1024x112_S1024x3072_S1024x5248_d1

/-- The divisor of the columns' numbers. -/
def sixtyFours : IVec S256 32 := broadcastInDim S256 ![] bcast_S_S256 (constantI S_ 32 64#32)

/-- The head of each of 256 columns, by floor division as printed. -/
def headIx : IVec S256 32 :=
  select (andi (cmpi .ne (signi (iotaInDim S256 32 0)) (broadcastInDim S256 ![] bcast_S_S256 (signi (constantI S_ 32 64#32))))
      (cmpi .ne (Host.remsi (iotaInDim S256 32 0) sixtyFours) (broadcastInDim S256 ![] bcast_S_S256 (constantI S_ 32 0#32))))
    (subi (Host.divsi (iotaInDim S256 32 0) sixtyFours) (broadcastInDim S256 ![] bcast_S_S256 (constantI S_ 32 1#32))) (Host.divsi (iotaInDim S256 32 0) sixtyFours)

/-- The averaging matrix. -/
def averaging : FVec Ideal S256x256 .bf16 :=
  truncf .bf16 (select (cmpi .eq (broadcastInDim S256x256 ![0, 1] bcast_S256x1_S256x256_0_1 (broadcastInDim S256x1 ![0] bcast_S256_S256x1_0 headIx))
      (broadcastInDim S256x256 ![0, 1] bcast_S1x256_S256x256_0_1 (broadcastInDim S1x256 ![1] bcast_S256_S1x256_1 headIx)))
    (broadcastInDim S256x256 ![] bcast_S_S256x256 (constant S_ .f32 0x3C800000#32 : FVec Ideal S_ .f32))
    (broadcastInDim S256x256 ![] bcast_S_S256x256 (constant S_ .f32 0x00000000#32 : FVec Ideal S_ .f32))) bitsLt_bf16_f32

/-- A gain of 64 repeated over the heads. -/
def repeated (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512

theorem V_weights : Gen.V m c main_v6 = permuted (m ((c.tc : Thread nD τ).loc main_arg3)) := by
  simp only [Gen.V, Gen.hostOps0, Gen.hostOps0_1, Gen.hostOps0_2, Gen.hostOps0_3, Gen.hostOps0_4, List.flatten_cons, List.flatten_nil, List.append_nil, List.cons_append, List.nil_append]
  after_results_simp <;> rfl

theorem V_averaging : Gen.V m c main_v18 = averaging := by
  simp only [Gen.V, Gen.hostOps0, Gen.hostOps0_1, Gen.hostOps0_2, Gen.hostOps0_3, Gen.hostOps0_4, List.flatten_cons, List.flatten_nil, List.append_nil, List.cons_append, List.nil_append]
  after_results_simp <;> rfl

theorem V_gain : Gen.V m c main_v19 = shapeCast S1x1024 (m ((c.tc : Thread nD τ).loc main_arg2) : FVec Ideal S1024 .f32) shapeCasts_S1024_S1x1024 := by
  simp only [Gen.V, Gen.hostOps0, Gen.hostOps0_1, Gen.hostOps0_2, Gen.hostOps0_3, Gen.hostOps0_4, List.flatten_cons, List.flatten_nil, List.append_nil, List.cons_append, List.nil_append]
  after_results_simp <;> rfl

theorem V_gq : Gen.V m c main_v24 = repeated (m ((c.tc : Thread nD τ).loc main_arg6)) := by
  simp only [Gen.V, Gen.hostOps0, Gen.hostOps0_1, Gen.hostOps0_2, Gen.hostOps0_3, Gen.hostOps0_4, List.flatten_cons, List.flatten_nil, List.append_nil, List.cons_append, List.nil_append]
  after_results_simp <;> rfl

theorem V_gk : Gen.V m c main_v28 = repeated (m ((c.tc : Thread nD τ).loc main_arg7)) := by
  simp only [Gen.V, Gen.hostOps0, Gen.hostOps0_1, Gen.hostOps0_2, Gen.hostOps0_3, Gen.hostOps0_4, List.flatten_cons, List.flatten_nil, List.append_nil, List.cons_append, List.nil_append]
  after_results_simp <;> rfl

theorem permuted_first (w : FVec Ideal S1024x5136 .f32) (k : Fin 1024) (n : Fin 512) : permuted w (ix2 k ⟨1536 + n, by omega⟩) = w (ix2 k ⟨1552 + n, by omega⟩) := by
  pointwise [permuted]

theorem permuted_rest (w : FVec Ideal S1024x5136 .f32) (k : Fin 1024) (n : Fin 3072) : permuted w (ix2 k ⟨2176 + n, by omega⟩) = w (ix2 k ⟨2064 + n, by omega⟩) := by
  pointwise [permuted]
  rw [dif_neg (by omega), dif_neg (by omega), dif_neg (by omega), dif_neg (by omega)]
  refine congrArg w (congrArg (ix2 k) (Fin.ext ?_))
  show 2064 + (2176 + (n : ℕ) - 1536 - 512 - 16 - 112) = 2064 + n
  omega

theorem headIx_apply : ∀ a : Fin 256, headIx (ix1 a) = BitVec.ofNat 32 (a / 64) := by
  decide +kernel

theorem averaging_apply (a b : Fin 256) : averaging (ix2 a b) = if (a : ℕ) / 64 = b / 64 then Ideal.ofBits .f32 0x3C800000#32 else 0 := by
  have e : ∀ p q : Fin 4, IntOp.cmpi .eq (BitVec.ofNat 32 p) (BitVec.ofNat 32 q) = if (p : ℕ) = q then 1#1 else 0#1 := by decide
  pointwise [averaging]
  rw [headIx_apply, headIx_apply]
  refine (congrArg (fun z => Scalar.select z (Ideal.ofBits .f32 0x3C800000#32) 0) (e ⟨a / 64, by omega⟩ ⟨b / 64, by omega⟩)).trans ?_
  show Scalar.select (if (a : ℕ) / 64 = b / 64 then 1#1 else 0#1) _ _ = _
  split
  · rfl
  · rfl

theorem repeated_apply (g : FVec Ideal S64 .f32) (n : Fin 512) : repeated g (ix2 0 n) = g (ix1 ⟨n % 64, by omega⟩) := by
  pointwise [repeated]

theorem block2 (n : Fin 1024) : Gen.iblk m c 2 t (ix2 0 n) = m ((c.tc : Thread nD τ).loc main_arg2) (ix1 n) := by
  have h : Gen.iblk m c 2 t (ix2 0 n) = Gen.V m c main_v19 (ix2 0 n : S1x1024.Idx) := by
    blk_ext [Gen.iblk, index_whole t]
  rw [h, V_gain]
  pointwise

theorem block3 (k : Fin 1024) (n : Fin 5248) : Gen.iblk m c 3 t (ix2 k n) = permuted (m ((c.tc : Thread nD τ).loc main_arg3)) (ix2 k n) := by
  rw [← V_weights m c]
  blk_ext [Gen.iblk, index_whole t]

theorem block6 (a b : Fin 256) : Gen.iblk m c 6 t (ix2 a b) = if (a : ℕ) / 64 = b / 64 then Ideal.ofBits .f32 0x3C800000#32 else 0 := by
  rw [← averaging_apply, ← V_averaging m c]
  blk_ext [Gen.iblk, index_whole t]

theorem block7 (n : Fin 512) : Gen.iblk m c 7 t (ix2 0 n) = m ((c.tc : Thread nD τ).loc main_arg6) (ix1 ⟨n % 64, by omega⟩) := by
  refine Eq.trans ?_ (repeated_apply (m ((c.tc : Thread nD τ).loc main_arg6)) n)
  rw [← V_gq m c]
  blk_ext [Gen.iblk, index_whole t]

theorem block8 (n : Fin 512) : Gen.iblk m c 8 t (ix2 0 n) = m ((c.tc : Thread nD τ).loc main_arg7) (ix1 ⟨n % 64, by omega⟩) := by
  refine Eq.trans ?_ (repeated_apply (m ((c.tc : Thread nD τ).loc main_arg7)) n)
  rw [← V_gk m c]
  blk_ext [Gen.iblk, index_whole t]

end Cert.Proof.Proj

end
-- ==== Proof.ProjArray.lean ====
/- The projection kernel's result arrays after the run, the gated linear attention's aside: block by block what the grid
   points store, read at an index. -/
module

public import proofs.«01_k».proof.Proof.ProjBlock

@[expose] public section

set_option maxRecDepth 16384

noncomputable section

namespace Cert.Proof.Proj

open Cert.Kernel3Ideal Idealize.ShloMosaic Idealize.ShloMosaic.TcCoe Idealize.SL.Sem

/-! ## The stored pieces read back -/

/-- A block stored whole. -/
theorem canon_whole (v : FVec Ideal S1x512x512 .bf16) (y : S1x512x512.Idx) :
    View.canon (Val := Elt Ideal) (e := .bf16) [⟨(Rect.unit ![0, 0, 0] S1x512x512.size inbWhole : Rect S1x512x512), v⟩] y = v y := by
  have e : (Rect.unit ![0, 0, 0] S1x512x512.size inbWhole : Rect S1x512x512).emb y = y := by
    funext a
    refine Fin.ext ?_
    fin_cases a <;> simp
  refine (congrArg (View.canon (Val := Elt Ideal) (e := .bf16) _) e.symm).trans ?_
  rw [View.canon_cons_emb]

/-- A slab's piece, where it holds an index of the gates. -/
theorem gate_at (R : Reads Ideal) (o s : ℕ) (hs : s < 4) (x : Fin 512) (n : Fin 1024) (z : S1x512x256.Idx)
    (h : (gateRect s).emb z = (ix3 0 x n : S1x512x1024.Idx)) :
    Gen.k0_pay80 R.h (R.wg (o + s)) z = Gen.k0_pay80 R.h (R.wg (o + n / 256)) (ix3 0 x ⟨n % 256, by omega⟩) := by
  have h1 : (z 1 : ℕ) = x := by
    have := congrArg (fun y : S1x512x1024.Idx => (y 1 : ℕ)) h
    simpa [gateRect] using this
  have h2 : 256 * (s % 4) + (z 2 : ℕ) = n := by
    have := congrArg (fun y : S1x512x1024.Idx => (y 2 : ℕ)) h
    simpa [gateRect] using this
  have b2 : (z 2 : ℕ) < 256 := (z 2).isLt
  have es : s = n / 256 := by omega
  have ez : z = (ix3 0 x ⟨n % 256, by omega⟩ : S1x512x256.Idx) := by
    funext a
    fin_cases a
    · exact Fin.ext (by have : (z 0 : ℕ) < 1 := (z 0).isLt; show (z 0 : ℕ) = 0; omega)
    · exact Fin.ext h1
    · exact Fin.ext (by show (z 2 : ℕ) = n % 256; omega)
  rw [← es, ez]

theorem canon_gates (R : Reads Ideal) (o : ℕ) (x : Fin 512) (n : Fin 1024) :
    View.canon (R.gates o) (ix3 0 x n : S1x512x1024.Idx) = Gen.k0_pay80 R.h (R.wg (o + n / 256)) (ix3 0 x ⟨n % 256, by omega⟩) := by
  refine View.canon_eq_of_allAt _ _ _ ?_ ?_
  · have key : ∀ s, s < 4 → (n : ℕ) / 256 = s → (ix3 0 x n : S1x512x1024.Idx) ∈ (gateRect s).set := fun s hs e => by
      rw [Rect.mem_set_unit]
      intro a
      fin_cases a <;> simp [S1x512x256] <;> omega
    rcases (show (n : ℕ) / 256 = 3 ∨ (n : ℕ) / 256 = 2 ∨ (n : ℕ) / 256 = 1 ∨ (n : ℕ) / 256 = 0 by omega) with e | e | e | e
    · exact ⟨_, List.mem_cons_self, key 3 (by decide) e⟩
    · exact ⟨_, List.mem_cons_of_mem _ List.mem_cons_self, key 2 (by decide) e⟩
    · exact ⟨_, List.mem_cons_of_mem _ (List.mem_cons_of_mem _ List.mem_cons_self), key 1 (by decide) e⟩
    · exact ⟨_, List.mem_cons_of_mem _ (List.mem_cons_of_mem _ (List.mem_cons_of_mem _ List.mem_cons_self)), key 0 (by decide) e⟩
  · intro p hp z hz
    simp only [Reads.gates, List.mem_cons, List.not_mem_nil, or_false] at hp
    rcases hp with rfl | rfl | rfl | rfl
    · exact gate_at R o 3 (by decide) x n z hz
    · exact gate_at R o 2 (by decide) x n z hz
    · exact gate_at R o 1 (by decide) x n z hz
    · exact gate_at R o 0 (by decide) x n z hz

/-! ## What a grid point stores -/

section
variable (dev : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5248 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S128x256 .f32) (harg18 : arg18.IsWhole) (hc0 : Gen.cond0_0 i)
    (x0 : Vec Ideal S1x512x1024 .f32) (x1 : Vec Ideal S1x6x1024 .f32) (x2 : Vec Ideal S1x1024 .f32) (x3 : Vec Ideal S1024x5248 .bf16) (x4 : Vec Ideal S128x256 .bf16) (x5 : Vec Ideal S1x256 .f32) (x6 : Vec Ideal S256x256 .bf16) (x7 : Vec Ideal S1x512 .f32) (x8 : Vec Ideal S1x512 .f32) (x9 : Vec Ideal S1x128 .f32)

theorem storedA : Gen.out0_A_11 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = View.canon (reads arg2 harg2 arg3 harg3 arg4 harg4 arg5 harg5 arg8 harg8 arg9 harg9 arg10 harg10 x0 x1 x2 x3 x6 x7 x8).queries
    ∧ Gen.out0_A_12 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = View.canon (reads arg2 harg2 arg3 harg3 arg4 harg4 arg5 harg5 arg8 harg8 arg9 harg9 arg10 harg10 x0 x1 x2 x3 x6 x7 x8).keys
    ∧ Gen.out0_A_13 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = View.canon (reads arg2 harg2 arg3 harg3 arg4 harg4 arg5 harg5 arg8 harg8 arg9 harg9 arg10 harg10 x0 x1 x2 x3 x6 x7 x8).values
    ∧ Gen.out0_A_14 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = View.canon ((reads arg2 harg2 arg3 harg3 arg4 harg4 arg5 harg5 arg8 harg8 arg9 harg9 arg10 harg10 x0 x1 x2 x3 x6 x7 x8).gates 0)
    ∧ Gen.out0_A_15 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = View.canon ((reads arg2 harg2 arg3 harg3 arg4 harg4 arg5 harg5 arg8 harg8 arg9 harg9 arg10 harg10 x0 x1 x2 x3 x6 x7 x8).gates 4) := by
  have h := piecesA dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9
  refine ⟨?_, ?_, ?_, ?_, ?_⟩
  · exact (View.read_writes_junk_eq_canon _ _).trans (congrArg View.canon h.1)
  · exact (View.read_writes_junk_eq_canon _ _).trans (congrArg View.canon h.2.1)
  · exact (View.read_writes_junk_eq_canon _ _).trans (congrArg View.canon h.2.2.1)
  · exact (View.read_writes_junk_eq_canon _ _).trans (congrArg View.canon h.2.2.2.1)
  · exact (View.read_writes_junk_eq_canon _ _).trans (congrArg View.canon h.2.2.2.2)

end

section
variable (dev : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5248 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S128x256 .f32) (harg18 : arg18.IsWhole) (hc0 : ¬Gen.cond0_0 i)
    (x0 : Vec Ideal S1x512x1024 .f32) (x1 : Vec Ideal S1x6x1024 .f32) (x2 : Vec Ideal S1x1024 .f32) (x3 : Vec Ideal S1024x5248 .bf16) (x4 : Vec Ideal S128x256 .bf16) (x5 : Vec Ideal S1x256 .f32) (x6 : Vec Ideal S256x256 .bf16) (x7 : Vec Ideal S1x512 .f32) (x8 : Vec Ideal S1x512 .f32) (x9 : Vec Ideal S1x128 .f32) (xs0 : Vec Ideal S128x256 .f32)

theorem storedB : Gen.out0_B_11 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 = View.canon (reads arg2 harg2 arg3 harg3 arg4 harg4 arg5 harg5 arg8 harg8 arg9 harg9 arg10 harg10 x0 x1 x2 x3 x6 x7 x8).queries
    ∧ Gen.out0_B_12 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 = View.canon (reads arg2 harg2 arg3 harg3 arg4 harg4 arg5 harg5 arg8 harg8 arg9 harg9 arg10 harg10 x0 x1 x2 x3 x6 x7 x8).keys
    ∧ Gen.out0_B_13 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 = View.canon (reads arg2 harg2 arg3 harg3 arg4 harg4 arg5 harg5 arg8 harg8 arg9 harg9 arg10 harg10 x0 x1 x2 x3 x6 x7 x8).values
    ∧ Gen.out0_B_14 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 = View.canon ((reads arg2 harg2 arg3 harg3 arg4 harg4 arg5 harg5 arg8 harg8 arg9 harg9 arg10 harg10 x0 x1 x2 x3 x6 x7 x8).gates 0)
    ∧ Gen.out0_B_15 dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 = View.canon ((reads arg2 harg2 arg3 harg3 arg4 harg4 arg5 harg5 arg8 harg8 arg9 harg9 arg10 harg10 x0 x1 x2 x3 x6 x7 x8).gates 4) := by
  have h := piecesB dev i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0
  refine ⟨?_, ?_, ?_, ?_, ?_⟩
  · exact (View.read_writes_junk_eq_canon _ _).trans (congrArg View.canon h.1)
  · exact (View.read_writes_junk_eq_canon _ _).trans (congrArg View.canon h.2.1)
  · exact (View.read_writes_junk_eq_canon _ _).trans (congrArg View.canon h.2.2.1)
  · exact (View.read_writes_junk_eq_canon _ _).trans (congrArg View.canon h.2.2.2.1)
  · exact (View.read_writes_junk_eq_canon _ _).trans (congrArg View.canon h.2.2.2.2)

end

section
variable (m : (ℓ : Loc nD τ sig) → Buf (Elt Ideal) ℓ) (c : Dev nD) (t : Fin cfg0.N)

/-- What grid point `t` reads. -/
def point : Reads Ideal :=
  reads (Gen.ms0_0 t) (Gen.hs0_0 t) (Gen.ms0_1 t) (Gen.hs0_1 t) (Gen.ms0_2 t) (Gen.hs0_2 t) (Gen.ms0_3 t) (Gen.hs0_3 t) (Gen.ms0_6 t) (Gen.hs0_6 t)
    (Gen.ms0_7 t) (Gen.hs0_7 t) (Gen.ms0_8 t) (Gen.hs0_8 t)
    (Gen.iblk m c 0 t) (Gen.iblk m c 1 t) (Gen.iblk m c 2 t) (Gen.iblk m c 3 t) (Gen.iblk m c 6 t) (Gen.iblk m c 7 t) (Gen.iblk m c 8 t)

theorem outs : (Gen.outsAt0 m c t.val t.isLt).2.1 = View.canon (point m c t).queries
    ∧ (Gen.outsAt0 m c t.val t.isLt).2.2.1 = View.canon (point m c t).keys
    ∧ (Gen.outsAt0 m c t.val t.isLt).2.2.2.1 = View.canon (point m c t).values
    ∧ (Gen.outsAt0 m c t.val t.isLt).2.2.2.2.1 = View.canon ((point m c t).gates 0)
    ∧ (Gen.outsAt0 m c t.val t.isLt).2.2.2.2.2.1 = View.canon ((point m c t).gates 4) := by
  by_cases h0 : t.val % 8 = 0
  · have e := Gen.outsAt0_A m c t h0
    have h := storedA c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) (Gen.ms0_11 t) (Gen.hs0_11 t) (Gen.ms0_12 t) (Gen.hs0_12 t) (Gen.ms0_13 t) (Gen.hs0_13 t) (Gen.ms0_14 t) (Gen.hs0_14 t) (Gen.ms0_15 t) (Gen.hs0_15 t) Gen.scM0_0 (Memref.isWhole_whole _) ((Gen.hcond0_0 t).mpr h0) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t)
    rw [← point] at h
    refine ⟨?_, ?_, ?_, ?_, ?_⟩
    · replace e := congrArg (fun p => p.2.1) e
      dsimp only at e
      exact e.trans h.1
    · replace e := congrArg (fun p => p.2.2.1) e
      dsimp only at e
      exact e.trans h.2.1
    · replace e := congrArg (fun p => p.2.2.2.1) e
      dsimp only at e
      exact e.trans h.2.2.1
    · replace e := congrArg (fun p => p.2.2.2.2.1) e
      dsimp only at e
      exact e.trans h.2.2.2.1
    · replace e := congrArg (fun p => p.2.2.2.2.2.1) e
      dsimp only at e
      exact e.trans h.2.2.2.2
  · have e := Gen.outsAt0_B m c t h0
    have h := storedB c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) (Gen.ms0_11 t) (Gen.hs0_11 t) (Gen.ms0_12 t) (Gen.hs0_12 t) (Gen.ms0_13 t) (Gen.hs0_13 t) (Gen.ms0_14 t) (Gen.hs0_14 t) (Gen.ms0_15 t) (Gen.hs0_15 t) Gen.scM0_0 (Memref.isWhole_whole _) (fun h => h0 ((Gen.hcond0_0 t).mp h)) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.outsAt0 m c (t.val - 1) (Nat.lt_of_le_of_lt (Nat.sub_le _ _) t.isLt)).2.2.2.2.2.2
    rw [← point] at h
    refine ⟨?_, ?_, ?_, ?_, ?_⟩
    · replace e := congrArg (fun p => p.2.1) e
      dsimp only at e
      exact e.trans h.1
    · replace e := congrArg (fun p => p.2.2.1) e
      dsimp only at e
      exact e.trans h.2.1
    · replace e := congrArg (fun p => p.2.2.2.1) e
      dsimp only at e
      exact e.trans h.2.2.1
    · replace e := congrArg (fun p => p.2.2.2.2.1) e
      dsimp only at e
      exact e.trans h.2.2.2.1
    · replace e := congrArg (fun p => p.2.2.2.2.2.1) e
      dsimp only at e
      exact e.trans h.2.2.2.2

/-! ## What a grid point reads of the arrays -/

theorem read_mod (i : Fin 6) (n : Fin 1024) : (point m c t).mod (ix3 0 i n) = (m ((c.tc : Thread nD τ).loc main_arg1)) (ix3 (batchOf t) i n) := by
  refine Eq.trans ?_ (block1 m c t i n)
  refine ((Gen.hs0_1 t).readAt_unread _ _ _).trans (congrArg (Gen.iblk m c 1 t) (funext fun b => ?_))
  fin_cases b <;> refine Fin.ext ?_ <;> simp

theorem read_top (r : Fin 256) (n : Fin 1024) : (point m c t).top (ix3 0 r n) = (m ((c.tc : Thread nD τ).loc main_arg0)) (ix3 (batchOf t) (tokenOf t ⟨r, by omega⟩) n) := by
  refine Eq.trans ?_ (block0 m c t ⟨r, by omega⟩ n)
  refine ((Gen.hs0_0 t).readAt_unread _ _ _).trans (congrArg (Gen.iblk m c 0 t) (funext fun b => ?_))
  fin_cases b <;> refine Fin.ext ?_ <;> simp

theorem read_bot (r : Fin 256) (n : Fin 1024) : (point m c t).bot (ix3 0 r n) = (m ((c.tc : Thread nD τ).loc main_arg0)) (ix3 (batchOf t) (tokenOf t ⟨256 + r, by omega⟩) n) := by
  refine Eq.trans ?_ (block0 m c t ⟨256 + r, by omega⟩ n)
  refine ((Gen.hs0_0 t).readAt_unread _ _ _).trans (congrArg (Gen.iblk m c 0 t) (funext fun b => ?_))
  fin_cases b <;> refine Fin.ext ?_ <;> simp

theorem read_g (n : Fin 1024) : (point m c t).g (ix2 0 n) = (m ((c.tc : Thread nD τ).loc main_arg2)) (ix1 n) := by
  refine Eq.trans ?_ (block2 m c t n)
  refine ((Gen.hs0_2 t).readAt_unread _ _ _).trans (congrArg (Gen.iblk m c 2 t) (funext fun b => ?_))
  fin_cases b <;> refine Fin.ext ?_ <;> simp

/-- A column of the kernel's matrix past the first 1536, as the matrix's own. -/
theorem column_first (k : Fin 1024) (n : Fin 512) : Gen.iblk m c 3 t (ix2 k ⟨1536 + n, by omega⟩) = (m ((c.tc : Thread nD τ).loc main_arg3)) (ix2 k ⟨1552 + n, by omega⟩) :=
  (block3 m c t _ _).trans (permuted_first _ k n)

theorem column_rest (k : Fin 1024) (n : Fin 3072) : Gen.iblk m c 3 t (ix2 k ⟨2176 + n, by omega⟩) = (m ((c.tc : Thread nD τ).loc main_arg3)) (ix2 k ⟨2064 + n, by omega⟩) :=
  (block3 m c t _ _).trans (permuted_rest _ k n)

theorem read_wq (k : Fin 1024) (n : Fin 512) : (point m c t).wq (ix2 k ⟨n, by omega⟩) = (m ((c.tc : Thread nD τ).loc main_arg3)) (ix2 k ⟨1552 + n, by omega⟩) := by
  refine Eq.trans ?_ (column_first m c t k n)
  refine ((Gen.hs0_3 t).readAt_unread _ _ _).trans (congrArg (Gen.iblk m c 3 t) (funext fun b => ?_))
  fin_cases b <;> refine Fin.ext ?_ <;> simp

theorem read_wk (k : Fin 1024) (n : Fin 512) : (point m c t).wk (ix2 k n) = (m ((c.tc : Thread nD τ).loc main_arg3)) (ix2 k ⟨2064 + n, by omega⟩) := by
  refine Eq.trans ?_ (column_rest m c t k ⟨n, by omega⟩)
  refine ((Gen.hs0_3 t).readAt_unread _ _ _).trans (congrArg (Gen.iblk m c 3 t) (funext fun b => ?_))
  fin_cases b <;> refine Fin.ext ?_ <;> simp

theorem read_wv (k : Fin 1024) (n : Fin 512) : (point m c t).wv (ix2 k n) = (m ((c.tc : Thread nD τ).loc main_arg3)) (ix2 k ⟨2576 + n, by omega⟩) := by
  refine Eq.trans ?_ ((column_rest m c t k ⟨512 + n, by omega⟩).trans (congrArg (m ((c.tc : Thread nD τ).loc main_arg3)) (congrArg (ix2 k) (Fin.ext (by show 2064 + (512 + (n : ℕ)) = 2576 + n; omega)))))
  refine ((Gen.hs0_3 t).readAt_unread _ _ _).trans (congrArg (Gen.iblk m c 3 t) (funext fun b => ?_))
  fin_cases b
  · exact Fin.ext (by simp)
  · refine Fin.ext ?_
    simp
    omega

theorem read_wg (s : ℕ) (hs : s < 8) (k : Fin 1024) (n : Fin 256) : (point m c t).wg s (ix2 k n) = (m ((c.tc : Thread nD τ).loc main_arg3)) (ix2 k ⟨3088 + 256 * s + n, by omega⟩) := by
  refine Eq.trans ?_ ((column_rest m c t k ⟨1024 + 256 * s + n, by omega⟩).trans (congrArg (m ((c.tc : Thread nD τ).loc main_arg3)) (congrArg (ix2 k) (Fin.ext (by
    show 2064 + (1024 + 256 * s + (n : ℕ)) = 3088 + 256 * s + n
    omega)))))
  refine ((Gen.hs0_3 t).readAt_unread _ _ _).trans (congrArg (Gen.iblk m c 3 t) (funext fun b => ?_))
  fin_cases b
  · exact Fin.ext (by simp [slabRect])
  · refine Fin.ext ?_
    simp [slabRect, Nat.mod_eq_of_lt hs]
    omega

theorem read_grp (a b : Fin 256) : (point m c t).grp (ix2 a b) = if (a : ℕ) / 64 = b / 64 then Ideal.ofBits .f32 0x3C800000#32 else 0 := by
  refine Eq.trans ?_ (block6 m c t a b)
  refine ((Gen.hs0_6 t).readAt_unread _ _ _).trans (congrArg (Gen.iblk m c 6 t) (funext fun b => ?_))
  fin_cases b <;> refine Fin.ext ?_ <;> simp

theorem read_gq (n : Fin 512) : (point m c t).gq (ix2 0 n) = (m ((c.tc : Thread nD τ).loc main_arg6)) (ix1 ⟨n % 64, by omega⟩) := by
  refine Eq.trans ?_ (block7 m c t n)
  refine ((Gen.hs0_7 t).readAt_unread _ _ _).trans (congrArg (Gen.iblk m c 7 t) (funext fun b => ?_))
  fin_cases b <;> refine Fin.ext ?_ <;> simp

theorem read_gk (n : Fin 512) : (point m c t).gk (ix2 0 n) = (m ((c.tc : Thread nD τ).loc main_arg7)) (ix1 ⟨n % 64, by omega⟩) := by
  refine Eq.trans ?_ (block8 m c t n)
  refine ((Gen.hs0_8 t).readAt_unread _ _ _).trans (congrArg (Gen.iblk m c 8 t) (funext fun b => ?_))
  fin_cases b <;> refine Fin.ext ?_ <;> simp

theorem row_eq (x : Fin 512) : (point m c t).row x = rowAt (m ((c.tc : Thread nD τ).loc main_arg0)) (m ((c.tc : Thread nD τ).loc main_arg1)) (m ((c.tc : Thread nD τ).loc main_arg2)) (batchOf t) (tokenOf t x) := by
  refine Ffn.pick_eq _ _ (fun x => rowAt (m ((c.tc : Thread nD τ).loc main_arg0)) (m ((c.tc : Thread nD τ).loc main_arg1)) (m ((c.tc : Thread nD τ).loc main_arg2)) (batchOf t) (tokenOf t x)) x (fun r => ?_) (fun r => ?_)
  · simp only [read_top, read_g, read_mod]
    rfl
  · simp only [read_bot, read_g, read_mod]
    rfl

/-! ## The blocks at an index -/

theorem after11 (x n : Fin 512) : (Gen.dats m 0 c).after 11 t (ix3 0 x n : S1x512x512.Idx) = queryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (batchOf t) (tokenOf t x) n := by
  rw [Gen.after0_11, (outs m c t).1]
  refine (canon_whole _ _).trans ((queryBlock_apply _ _ _ (read_grp m c t) (fun d => (m ((c.tc : Thread nD τ).loc main_arg6)) (ix1 d)) (read_gq m c t) x n).trans ?_)
  refine congrArg (· * _) (congrArg (fun f => headed f _ n) (funext fun j => (q_apply _ x j).trans ?_))
  simp only [row_eq, read_wq]
  rfl

theorem after12 (x n : Fin 512) : (Gen.dats m 0 c).after 12 t (ix3 0 x n : S1x512x512.Idx) = keyAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (batchOf t) (tokenOf t x) n := by
  rw [Gen.after0_12, (outs m c t).2.1]
  refine (canon_whole _ _).trans ((keyBlock_apply _ _ _ (read_grp m c t) (fun d => (m ((c.tc : Thread nD τ).loc main_arg7)) (ix1 d)) (read_gk m c t) x n).trans ?_)
  refine congrArg (fun f => headed f _ n) (funext fun j => (key_apply _ _ x j).trans ?_)
  simp only [h_apply, row_eq, read_wk]
  rfl

theorem after13 (x n : Fin 512) : (Gen.dats m 0 c).after 13 t (ix3 0 n x : S1x512x512.Idx) = valueAt (m ((c.tc : Thread nD τ).loc main_arg0)) (m ((c.tc : Thread nD τ).loc main_arg1)) (m ((c.tc : Thread nD τ).loc main_arg2)) (m ((c.tc : Thread nD τ).loc main_arg3)) (batchOf t) (tokenOf t x) n := by
  rw [Gen.after0_13, (outs m c t).2.2.1]
  refine (canon_whole _ _).trans ((value_apply _ _ x n).trans ?_)
  simp only [h_apply, row_eq, read_wv]
  rfl

/-- A gate stored at a grid point, its slab and the column within it. -/
theorem gates_apply (o : ℕ) (ho : o ≤ 4) (x : Fin 512) (n : Fin 1024) :
    View.canon ((point m c t).gates o) (ix3 0 x n : S1x512x1024.Idx) = gateAt (m ((c.tc : Thread nD τ).loc main_arg0)) (m ((c.tc : Thread nD τ).loc main_arg1)) (m ((c.tc : Thread nD τ).loc main_arg2)) (m ((c.tc : Thread nD τ).loc main_arg3)) (batchOf t) (tokenOf t x) (256 * o) (by omega) n := by
  refine (canon_gates _ o x n).trans ((gate_apply _ _ x _).trans ?_)
  simp only [h_apply, row_eq, read_wg m c t (o + n / 256) (by omega)]
  exact congrArg Ideal.logistic (column_congr _ _ (by omega) (by omega) (by show 3088 + 256 * (o + (n : ℕ) / 256) + n % 256 = 3088 + 256 * o + n; omega))

theorem after14 (x : Fin 512) (n : Fin 1024) : (Gen.dats m 0 c).after 14 t (ix3 0 x n : S1x512x1024.Idx) = gateAt (m ((c.tc : Thread nD τ).loc main_arg0)) (m ((c.tc : Thread nD τ).loc main_arg1)) (m ((c.tc : Thread nD τ).loc main_arg2)) (m ((c.tc : Thread nD τ).loc main_arg3)) (batchOf t) (tokenOf t x) 0 (by omega) n := by
  rw [Gen.after0_14, (outs m c t).2.2.2.1]
  exact gates_apply m c t 0 (by omega) x n

theorem after15 (x : Fin 512) (n : Fin 1024) : (Gen.dats m 0 c).after 15 t (ix3 0 x n : S1x512x1024.Idx) = gateAt (m ((c.tc : Thread nD τ).loc main_arg0)) (m ((c.tc : Thread nD τ).loc main_arg1)) (m ((c.tc : Thread nD τ).loc main_arg2)) (m ((c.tc : Thread nD τ).loc main_arg3)) (batchOf t) (tokenOf t x) 1024 (by omega) n := by
  rw [Gen.after0_15, (outs m c t).2.2.2.2]
  exact gates_apply m c t 4 (by omega) x n

end

/-! ## The result arrays -/

theorem cell_row (y : S1x512x512.Idx) : y = (ix3 0 ⟨(y 1 : ℕ), (y 1).isLt⟩ ⟨(y 2 : ℕ), (y 2).isLt⟩ : S1x512x512.Idx) := by
  funext a
  fin_cases a
  · exact Fin.ext (by have : (y 0 : ℕ) < 1 := (y 0).isLt; show (y 0 : ℕ) = 0; omega)
  · rfl
  · rfl

theorem cell_gate (y : S1x512x1024.Idx) : y = (ix3 0 ⟨(y 1 : ℕ), (y 1).isLt⟩ ⟨(y 2 : ℕ), (y 2).isLt⟩ : S1x512x1024.Idx) := by
  funext a
  fin_cases a
  · exact Fin.ext (by have : (y 0 : ℕ) < 1 := (y 0).isLt; show (y 0 : ℕ) = 0; omega)
  · rfl
  · rfl

variable (m : (ℓ : Loc nD τ sig) → Buf (Elt Ideal) ℓ) (c : Dev nD)

/-- The queries. -/
theorem array11 : (Gen.dats m 0 c).arrAt 11 cfg0.N = fun i : S16x4096x512.Idx =>
    queryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (i 0) (i 1) (i 2) := by
  refine (Gen.dats m 0 c).arrAt_eq_of_covers 11 _ (by decide +kernel) fun t hf y => ?_
  have e0 : (win0_11.blk t).view.emb y 0 = batchOf t := Fin.ext (by have : (y 0 : ℕ) < 1 := (y 0).isLt; blk_simp [(index_out t).1])
  have e1 : (win0_11.blk t).view.emb y 1 = tokenOf t ⟨(y 1 : ℕ), (y 1).isLt⟩ := Fin.ext (by
    blk_simp [(index_out t).1]
    show (t : ℕ) % 8 * 512 + (y 1 : ℕ) = 512 * (t % 8) + (y 1 : ℕ)
    omega)
  have e2 : (win0_11.blk t).view.emb y 2 = (⟨(y 2 : ℕ), (y 2).isLt⟩ : Fin 512) := Fin.ext (by blk_simp [(index_out t).1])
  refine (congrArg ((Gen.dats m 0 c).after 11 t) (cell_row y)).trans ((after11 m c t _ _).trans ?_)
  exact (congr (congr (congrArg (fun (b : Fin 16) (s : Fin 4096) (n : Fin 512) => queryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) b s n) e0) e1) e2).symm

/-- The keys. -/
theorem array12 : (Gen.dats m 0 c).arrAt 12 cfg0.N = fun i : S16x4096x512.Idx =>
    keyAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (i 0) (i 1) (i 2) := by
  refine (Gen.dats m 0 c).arrAt_eq_of_covers 12 _ (by decide +kernel) fun t hf y => ?_
  have e0 : (win0_12.blk t).view.emb y 0 = batchOf t := Fin.ext (by have : (y 0 : ℕ) < 1 := (y 0).isLt; blk_simp [(index_out t).2.1])
  have e1 : (win0_12.blk t).view.emb y 1 = tokenOf t ⟨(y 1 : ℕ), (y 1).isLt⟩ := Fin.ext (by
    blk_simp [(index_out t).2.1]
    show (t : ℕ) % 8 * 512 + (y 1 : ℕ) = 512 * (t % 8) + (y 1 : ℕ)
    omega)
  have e2 : (win0_12.blk t).view.emb y 2 = (⟨(y 2 : ℕ), (y 2).isLt⟩ : Fin 512) := Fin.ext (by blk_simp [(index_out t).2.1])
  refine (congrArg ((Gen.dats m 0 c).after 12 t) (cell_row y)).trans ((after12 m c t _ _).trans ?_)
  exact (congr (congr (congrArg (fun (b : Fin 16) (s : Fin 4096) (n : Fin 512) => keyAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) b s n) e0) e1) e2).symm

/-- The values, across. -/
theorem array13 : (Gen.dats m 0 c).arrAt 13 cfg0.N = fun i : S16x512x4096.Idx =>
    valueAt (m ((c.tc : Thread nD τ).loc main_arg0)) (m ((c.tc : Thread nD τ).loc main_arg1)) (m ((c.tc : Thread nD τ).loc main_arg2)) (m ((c.tc : Thread nD τ).loc main_arg3)) (i 0) (i 2) (i 1) := by
  refine (Gen.dats m 0 c).arrAt_eq_of_covers 13 _ (by decide +kernel) fun t hf y => ?_
  have e0 : (win0_13.blk t).view.emb y 0 = batchOf t := Fin.ext (by have : (y 0 : ℕ) < 1 := (y 0).isLt; blk_simp [(index_out t).2.2.1])
  have e1 : (win0_13.blk t).view.emb y 2 = tokenOf t ⟨(y 2 : ℕ), (y 2).isLt⟩ := Fin.ext (by
    blk_simp [(index_out t).2.2.1]
    show (t : ℕ) % 8 * 512 + (y 2 : ℕ) = 512 * (t % 8) + (y 2 : ℕ)
    omega)
  have e2 : (win0_13.blk t).view.emb y 1 = (⟨(y 1 : ℕ), (y 1).isLt⟩ : Fin 512) := Fin.ext (by blk_simp [(index_out t).2.2.1])
  refine (congrArg ((Gen.dats m 0 c).after 13 t) (cell_row y)).trans ((after13 m c t _ _).trans ?_)
  exact (congr (congr (congrArg (fun (b : Fin 16) (s : Fin 4096) (n : Fin 512) => valueAt (m ((c.tc : Thread nD τ).loc main_arg0)) (m ((c.tc : Thread nD τ).loc main_arg1)) (m ((c.tc : Thread nD τ).loc main_arg2)) (m ((c.tc : Thread nD τ).loc main_arg3)) b s n) e0) e1) e2).symm

/-- The gated linear attention's gate. -/
theorem array14 : (Gen.dats m 0 c).arrAt 14 cfg0.N = fun i : S16x4096x1024.Idx =>
    gateAt (m ((c.tc : Thread nD τ).loc main_arg0)) (m ((c.tc : Thread nD τ).loc main_arg1)) (m ((c.tc : Thread nD τ).loc main_arg2)) (m ((c.tc : Thread nD τ).loc main_arg3)) (i 0) (i 1) 0 (by omega) (i 2) := by
  refine (Gen.dats m 0 c).arrAt_eq_of_covers 14 _ (by decide +kernel) fun t hf y => ?_
  have e0 : (win0_14.blk t).view.emb y 0 = batchOf t := Fin.ext (by have : (y 0 : ℕ) < 1 := (y 0).isLt; blk_simp [(index_out t).2.2.2.1])
  have e1 : (win0_14.blk t).view.emb y 1 = tokenOf t ⟨(y 1 : ℕ), (y 1).isLt⟩ := Fin.ext (by
    blk_simp [(index_out t).2.2.2.1]
    show (t : ℕ) % 8 * 512 + (y 1 : ℕ) = 512 * (t % 8) + (y 1 : ℕ)
    omega)
  have e2 : (win0_14.blk t).view.emb y 2 = (⟨(y 2 : ℕ), (y 2).isLt⟩ : Fin 1024) := Fin.ext (by blk_simp [(index_out t).2.2.2.1])
  refine (congrArg ((Gen.dats m 0 c).after 14 t) (cell_gate y)).trans ((after14 m c t _ _).trans ?_)
  exact (congr (congr (congrArg (fun (b : Fin 16) (s : Fin 4096) (n : Fin 1024) => gateAt (m ((c.tc : Thread nD τ).loc main_arg0)) (m ((c.tc : Thread nD τ).loc main_arg1)) (m ((c.tc : Thread nD τ).loc main_arg2)) (m ((c.tc : Thread nD τ).loc main_arg3)) b s 0 (by omega) n) e0) e1) e2).symm

/-- The differential attention's gate. -/
theorem array15 : (Gen.dats m 0 c).arrAt 15 cfg0.N = fun i : S16x4096x1024.Idx =>
    gateAt (m ((c.tc : Thread nD τ).loc main_arg0)) (m ((c.tc : Thread nD τ).loc main_arg1)) (m ((c.tc : Thread nD τ).loc main_arg2)) (m ((c.tc : Thread nD τ).loc main_arg3)) (i 0) (i 1) 1024 (by omega) (i 2) := by
  refine (Gen.dats m 0 c).arrAt_eq_of_covers 15 _ (by decide +kernel) fun t hf y => ?_
  have e0 : (win0_15.blk t).view.emb y 0 = batchOf t := Fin.ext (by have : (y 0 : ℕ) < 1 := (y 0).isLt; blk_simp [(index_out t).2.2.2.2])
  have e1 : (win0_15.blk t).view.emb y 1 = tokenOf t ⟨(y 1 : ℕ), (y 1).isLt⟩ := Fin.ext (by
    blk_simp [(index_out t).2.2.2.2]
    show (t : ℕ) % 8 * 512 + (y 1 : ℕ) = 512 * (t % 8) + (y 1 : ℕ)
    omega)
  have e2 : (win0_15.blk t).view.emb y 2 = (⟨(y 2 : ℕ), (y 2).isLt⟩ : Fin 1024) := Fin.ext (by blk_simp [(index_out t).2.2.2.2])
  refine (congrArg ((Gen.dats m 0 c).after 15 t) (cell_gate y)).trans ((after15 m c t _ _).trans ?_)
  exact (congr (congr (congrArg (fun (b : Fin 16) (s : Fin 4096) (n : Fin 1024) => gateAt (m ((c.tc : Thread nD τ).loc main_arg0)) (m ((c.tc : Thread nD τ).loc main_arg1)) (m ((c.tc : Thread nD τ).loc main_arg2)) (m ((c.tc : Thread nD τ).loc main_arg3)) b s 1024 (by omega) n) e0) e1) e2).symm

end Cert.Proof.Proj

end
-- ==== Proof.ProjRef.lean ====
/- The projection reference's results, cut into named stages, each read at an index. -/
module

public import proofs.«01_k».proof.Proof.Projected
public import proofs.«01_k».proof.Proof.Gen.Reference3Ideal.Run
public import Idealize.ShloMosaic.Lib.Pointwise

@[expose] public section

set_option maxRecDepth 16384

noncomputable section

namespace Cert.Proof.ProjRef

open Cert.Reference3Ideal Idealize.ShloMosaic Idealize.ShloMosaic.TcCoe Idealize.SL.Sem
open Cert.Reference3Ideal.Facts₀ Cert.Reference3Ideal.Facts
open Cert.Proof.Proj

/-- The modulated norm. -/
def norm (r : FVec Ideal S16x4096x1024 .f32) (mod : FVec Ideal S16x6x1024 .f32) (g : FVec Ideal S1024 .f32) : FVec Ideal S16x4096x1024 .f32 :=
  addf (mulf (mulf (mulf r (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf r r) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g)))
    (broadcastInDim S16x4096x1024 ![0, 1, 2] bcast_S16x1x1024_S16x4096x1024_0_1_2
      (addf (broadcastInDim S16x1x1024 ![] bcast_S_S16x1x1024 (constant S_ .f32 0x3F800000#32)) (extractStridedSlice S16x1x1024 ![0, 1, 0] mod slices_S16x6x1024_S16x1x1024_0_1_0))))
    (broadcastInDim S16x4096x1024 ![0, 1, 2] bcast_S16x1x1024_S16x4096x1024_0_1_2 (extractStridedSlice S16x1x1024 ![0, 0, 0] mod slices_S16x6x1024_S16x1x1024_0_0_0))

/-- The projected columns of the attention and the gates. -/
def wide (h : FVec Ideal S16x4096x1024 .f32) (w : FVec Ideal S1024x5136 .f32) : FVec Ideal S16x4096x3584 .f32 :=
  extractStridedSlice S16x4096x3584 ![0, 0, 1552] (Host.dotGeneral dot_S16x4096x1024_S1024x5136_S16x4096x5136_2_0_01_1_n_n none h w) slices_S16x4096x5136_S16x4096x3584_0_0_1552

/-- The root mean square norm of each head of 64. -/
def heads (q : FVec Ideal S16x4096x512 .f32) (g : FVec Ideal S64 .f32) : FVec Ideal S16x4096x512 .f32 :=
  shapeCast S16x4096x512 (mulf (mulf (shapeCast S16x4096x8x64 q shapeCasts_S16x4096x512_S16x4096x8x64)
      (broadcastInDim S16x4096x8x64 ![0, 1, 2, 3] bcast_S16x4096x8x1_S16x4096x8x64_0_1_2_3 (Host.rsqrt (addf (Host.divf
        (broadcastInDim S16x4096x8x1 ![0, 1, 2] bcast_S16x4096x8_S16x4096x8x1_0_1_2 (Host.reduceAdd
          (mulf (shapeCast S16x4096x8x64 q shapeCasts_S16x4096x512_S16x4096x8x64) (shapeCast S16x4096x8x64 q shapeCasts_S16x4096x512_S16x4096x8x64))
          (constant S_ .f32 0x00000000#32) reducesTo_S16x4096x8x64_S16x4096x8_d3 h_S_))
        (broadcastInDim S16x4096x8x1 ![] bcast_S_S16x4096x8x1 (constant S_ .f32 0x42800000#32))) (broadcastInDim S16x4096x8x1 ![] bcast_S_S16x4096x8x1 (constant S_ .f32 0x358637BD#32))))))
    (broadcastInDim S16x4096x8x64 ![0, 1, 2, 3] bcast_S1x1x1x64_S16x4096x8x64_0_1_2_3 (broadcastInDim S1x1x1x64 ![3] bcast_S64_S1x1x1x64_3 g)))
    shapeCasts_S16x4096x8x64_S16x4096x512

/-- The queries. -/
def queries (u : FVec Ideal S16x4096x3584 .f32) (g : FVec Ideal S64 .f32) : FVec Ideal S16x4096x512 .bf16 :=
  truncf .bf16 (mulf (heads (extractStridedSlice S16x4096x512 ![0, 0, 0] u slices_S16x4096x3584_S16x4096x512_0_0_0) g)
    (broadcastInDim S16x4096x512 ![] bcast_S_S16x4096x512 (constant S_ .f32 0x3E38AA3B#32))) bitsLt_bf16_f32

/-- The keys. -/
def keys (u : FVec Ideal S16x4096x3584 .f32) (g : FVec Ideal S64 .f32) : FVec Ideal S16x4096x512 .bf16 :=
  truncf .bf16 (heads (extractStridedSlice S16x4096x512 ![0, 0, 512] u slices_S16x4096x3584_S16x4096x512_0_0_512) g) bitsLt_bf16_f32

/-- The values, across. -/
def values (u : FVec Ideal S16x4096x3584 .f32) : FVec Ideal S16x512x4096 .bf16 :=
  truncf .bf16 (transpose S16x512x4096 [0, 2, 1] (extractStridedSlice S16x4096x512 ![0, 0, 1024] u slices_S16x4096x3584_S16x4096x512_0_0_1024)
    transposes_S16x4096x512_S16x512x4096_0_2_1) bitsLt_bf16_f32

/-- A gate, from its columns. -/
def gate (p : FVec Ideal S16x4096x1024 .f32) : FVec Ideal S16x4096x1024 .bf16 :=
  truncf .bf16 (Host.divf (broadcastInDim S16x4096x1024 ![] bcast_S_S16x4096x1024 (constant S_ .f32 0x3F800000#32))
    (addf (broadcastInDim S16x4096x1024 ![] bcast_S_S16x4096x1024 (constant S_ .f32 0x3F800000#32)) (Host.exp (Host.negf p)))) bitsLt_bf16_f32

/-- The gates of the two branches. -/
def gateGla (u : FVec Ideal S16x4096x3584 .f32) : FVec Ideal S16x4096x1024 .bf16 :=
  gate (extractStridedSlice S16x4096x1024 ![0, 0, 1536] u slices_S16x4096x3584_S16x4096x1024_0_0_1536)
def gateDiff (u : FVec Ideal S16x4096x3584 .f32) : FVec Ideal S16x4096x1024 .bf16 :=
  gate (extractStridedSlice S16x4096x1024 ![0, 0, 2560] u slices_S16x4096x3584_S16x4096x1024_0_0_2560)

section
variable (m : (ℓ : Loc nD τ sig) → Buf (Elt Ideal) ℓ) (c : Dev nD)

/-- The projected columns, from the arrays. -/
abbrev whole : FVec Ideal S16x4096x3584 .f32 :=
  wide (norm (m ((c.tc : Thread nD τ).loc main_arg0)) (m ((c.tc : Thread nD τ).loc main_arg1)) (m ((c.tc : Thread nD τ).loc main_arg2))) (m ((c.tc : Thread nD τ).loc main_arg3))

theorem res0_eq : Value.res_out0 (F := Ideal) m c = queries (whole m c) (m ((c.tc : Thread nD τ).loc main_arg6)) := by
  unfold Value.res_out0 Value.res_main_v73 queries heads whole wide norm
  rfl

theorem res1_eq : Value.res_out1 (F := Ideal) m c = keys (whole m c) (m ((c.tc : Thread nD τ).loc main_arg7)) := by
  unfold Value.res_out1 Value.res_main_v74 keys heads whole wide norm
  rfl

end

/-! ## The stages at an index -/

theorem norm_apply (r : FVec Ideal S16x4096x1024 .f32) (mod : FVec Ideal S16x6x1024 .f32) (g : FVec Ideal S1024 .f32) (b : Fin 16) (t : Fin 4096) (n : Fin 1024) :
    norm r mod g (ix3 b t n) = rowAt r mod g b t n := by
  pointwise [norm, rowAt, Ffn.modulated]

theorem wide_apply (h : FVec Ideal S16x4096x1024 .f32) (w : FVec Ideal S1024x5136 .f32) (b : Fin 16) (t : Fin 4096) (n : Fin 3584) :
    wide h w (ix3 b t n) = column (fun k => h (ix3 b t k)) w (1552 + n) (by omega) := by
  pointwise [wide, column]

theorem heads_apply (q : FVec Ideal S16x4096x512 .f32) (g : FVec Ideal S64 .f32) (b : Fin 16) (t : Fin 4096) (n : Fin 512) :
    heads q g (ix3 b t n) = headed (fun n => q (ix3 b t n)) (fun d => g (ix1 d)) n := by
  pointwise [heads, headed]
  simp only [Nat.mul_comm 64]

theorem queries_apply (u : FVec Ideal S16x4096x3584 .f32) (g : FVec Ideal S64 .f32) (b : Fin 16) (t : Fin 4096) (n : Fin 512) :
    queries u g (ix3 b t n) = headed (fun n => u (ix3 b t ⟨n, by omega⟩)) (fun d => g (ix1 d)) n * Ideal.ofBits .f32 0x3E38AA3B#32 := by
  refine Eq.trans (b := heads (extractStridedSlice S16x4096x512 ![0, 0, 0] u slices_S16x4096x3584_S16x4096x512_0_0_0) g (ix3 b t n) * Ideal.ofBits .f32 0x3E38AA3B#32) rfl ?_
  rw [heads_apply]
  refine congrArg (· * _) (congrArg (fun f => headed f _ n) (funext fun j => ?_))
  pointwise

theorem keys_apply (u : FVec Ideal S16x4096x3584 .f32) (g : FVec Ideal S64 .f32) (b : Fin 16) (t : Fin 4096) (n : Fin 512) :
    keys u g (ix3 b t n) = headed (fun n => u (ix3 b t ⟨512 + n, by omega⟩)) (fun d => g (ix1 d)) n := by
  refine Eq.trans (b := heads (extractStridedSlice S16x4096x512 ![0, 0, 512] u slices_S16x4096x3584_S16x4096x512_0_0_512) g (ix3 b t n)) rfl ?_
  rw [heads_apply]
  refine congrArg (fun f => headed f _ n) (funext fun j => ?_)
  pointwise

theorem values_apply (u : FVec Ideal S16x4096x3584 .f32) (b : Fin 16) (n : Fin 512) (t : Fin 4096) :
    values u (ix3 b n t) = u (ix3 b t ⟨1024 + n, by omega⟩) := by
  pointwise [values]

theorem gateGla_apply (u : FVec Ideal S16x4096x3584 .f32) (b : Fin 16) (t : Fin 4096) (n : Fin 1024) :
    gateGla u (ix3 b t n) = Ideal.logistic (u (ix3 b t ⟨1536 + n, by omega⟩)) := by
  pointwise [gateGla, gate, Ideal.logistic]

theorem gateDiff_apply (u : FVec Ideal S16x4096x3584 .f32) (b : Fin 16) (t : Fin 4096) (n : Fin 1024) :
    gateDiff u (ix3 b t n) = Ideal.logistic (u (ix3 b t ⟨2560 + n, by omega⟩)) := by
  pointwise [gateDiff, gate, Ideal.logistic]

section
variable (m : (ℓ : Loc nD τ sig) → Buf (Elt Ideal) ℓ) (c : Dev nD)

theorem whole_apply (b : Fin 16) (t : Fin 4096) (n : Fin 3584) :
    whole m c (ix3 b t n) = column (rowAt (m ((c.tc : Thread nD τ).loc main_arg0)) (m ((c.tc : Thread nD τ).loc main_arg1)) (m ((c.tc : Thread nD τ).loc main_arg2)) b t)
      (m ((c.tc : Thread nD τ).loc main_arg3)) (1552 + n) (by omega) := by
  refine (wide_apply _ _ b t n).trans ?_
  simp only [norm_apply]

theorem queries_at (b : Fin 16) (t : Fin 4096) (n : Fin 512) :
    queries (whole m c) (m ((c.tc : Thread nD τ).loc main_arg6)) (ix3 b t n) =
      queryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) b t n := by
  rw [queries_apply]
  simp only [whole_apply]
  rfl

theorem queries_eq : queries (whole m c) (m ((c.tc : Thread nD τ).loc main_arg6)) = fun i : S16x4096x512.Idx =>
    queryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (i 0) (i 1) (i 2) := by
  funext i
  exact (congrArg (queries (whole m c) (m ((c.tc : Thread nD τ).loc main_arg6))) (eq_ix3 i)).trans (queries_at m c (i 0) (i 1) (i 2))

theorem keys_at (b : Fin 16) (t : Fin 4096) (n : Fin 512) :
    keys (whole m c) (m ((c.tc : Thread nD τ).loc main_arg7)) (ix3 b t n) =
      keyAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) b t n := by
  rw [keys_apply]
  simp only [whole_apply]
  exact congrArg (fun f => headed f _ n) (funext fun j => column_congr _ _ _ _ (by show 1552 + (512 + (j : ℕ)) = 2064 + j; omega))

theorem keys_eq : keys (whole m c) (m ((c.tc : Thread nD τ).loc main_arg7)) = fun i : S16x4096x512.Idx =>
    keyAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (i 0) (i 1) (i 2) := by
  funext i
  exact (congrArg (keys (whole m c) (m ((c.tc : Thread nD τ).loc main_arg7))) (eq_ix3 i)).trans (keys_at m c (i 0) (i 1) (i 2))

theorem values_at (b : Fin 16) (n : Fin 512) (t : Fin 4096) :
    values (whole m c) (ix3 b n t) =
      valueAt (m ((c.tc : Thread nD τ).loc main_arg0)) (m ((c.tc : Thread nD τ).loc main_arg1)) (m ((c.tc : Thread nD τ).loc main_arg2)) (m ((c.tc : Thread nD τ).loc main_arg3)) b t n := by
  rw [values_apply, whole_apply]
  exact column_congr _ _ _ _ (by show 1552 + (1024 + (n : ℕ)) = 2576 + n; omega)

theorem values_eq : values (whole m c) = fun i : S16x512x4096.Idx =>
    valueAt (m ((c.tc : Thread nD τ).loc main_arg0)) (m ((c.tc : Thread nD τ).loc main_arg1)) (m ((c.tc : Thread nD τ).loc main_arg2)) (m ((c.tc : Thread nD τ).loc main_arg3)) (i 0) (i 2) (i 1) := by
  funext i
  exact (congrArg (values (whole m c)) (eq_ix3 i)).trans (values_at m c (i 0) (i 1) (i 2))

theorem gateGla_at (b : Fin 16) (t : Fin 4096) (n : Fin 1024) :
    gateGla (whole m c) (ix3 b t n) =
      gateAt (m ((c.tc : Thread nD τ).loc main_arg0)) (m ((c.tc : Thread nD τ).loc main_arg1)) (m ((c.tc : Thread nD τ).loc main_arg2)) (m ((c.tc : Thread nD τ).loc main_arg3)) b t 0 (by omega) n := by
  rw [gateGla_apply, whole_apply]
  exact congrArg Ideal.logistic (column_congr _ _ _ _ (by show 1552 + (1536 + (n : ℕ)) = 3088 + 0 + n; omega))

theorem gateGla_eq : gateGla (whole m c) = fun i : S16x4096x1024.Idx =>
    gateAt (m ((c.tc : Thread nD τ).loc main_arg0)) (m ((c.tc : Thread nD τ).loc main_arg1)) (m ((c.tc : Thread nD τ).loc main_arg2)) (m ((c.tc : Thread nD τ).loc main_arg3)) (i 0) (i 1) 0 (by omega) (i 2) := by
  funext i
  exact (congrArg (gateGla (whole m c)) (eq_ix3 i)).trans (gateGla_at m c (i 0) (i 1) (i 2))

theorem gateDiff_at (b : Fin 16) (t : Fin 4096) (n : Fin 1024) :
    gateDiff (whole m c) (ix3 b t n) =
      gateAt (m ((c.tc : Thread nD τ).loc main_arg0)) (m ((c.tc : Thread nD τ).loc main_arg1)) (m ((c.tc : Thread nD τ).loc main_arg2)) (m ((c.tc : Thread nD τ).loc main_arg3)) b t 1024 (by omega) n := by
  rw [gateDiff_apply, whole_apply]
  exact congrArg Ideal.logistic (column_congr _ _ _ _ (by show 1552 + (2560 + (n : ℕ)) = 3088 + 1024 + n; omega))

theorem gateDiff_eq : gateDiff (whole m c) = fun i : S16x4096x1024.Idx =>
    gateAt (m ((c.tc : Thread nD τ).loc main_arg0)) (m ((c.tc : Thread nD τ).loc main_arg1)) (m ((c.tc : Thread nD τ).loc main_arg2)) (m ((c.tc : Thread nD τ).loc main_arg3)) (i 0) (i 1) 1024 (by omega) (i 2) := by
  funext i
  exact (congrArg (gateDiff (whole m c)) (eq_ix3 i)).trans (gateDiff_at m c (i 0) (i 1) (i 2))

end

end Cert.Proof.ProjRef

end
-- ==== Proof.lean ====
/- The certificate's claims: the frames of the programs, the naming of the mask, and that each kernel's result arrays
   are its reference's. The attention's value claim meets in the middle: `Ker.array_eq` brings the
   kernel's array and `Ref.out_real` the reference's into the form `Softmax.attention`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.KernelArray
public import proofs.«01_k».proof.Proof.RefPoint
public import proofs.«01_k».proof.Proof.Finite
public import proofs.«01_k».proof.Proof.FfnArray
public import proofs.«01_k».proof.Proof.FfnRef
public import proofs.«01_k».proof.Proof.ProjArray
public import proofs.«01_k».proof.Proof.ProjRef
public import Idealize.ShloMosaic.Adequacy
public import Idealize.ShloMosaic.Init

@[expose] public section

noncomputable section

namespace Cert.Proof

open Idealize.ShloMosaic Idealize.SL.Sem Cert.Proof.Softmax

/-- The reference keeps its arguments, and has no semaphores. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's mask constant, named minus infinity. -/
theorem mask_named : Cert.preserves_Kernel_KernelIdeal :=
  IdealRules.named_const.statement Cert.KernelIdeal.κ "mask" .f32 0xF149F2CA#32 ⊥ rfl

/-- The kernel's result and the reference's are the same array of extended reals. -/
theorem same_result : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2, p3, p4, p5, p6, p7⟩ := hpre c
  obtain ⟨a0, a1, a2, a3, a4, a5, a6, a7, a8⟩ := hagree c
  have h0 := allReal_of_compare (m ((c.tc : Thread Cert.KernelIdeal.nD Cert.KernelIdeal.τ).loc Cert.KernelIdeal.main_arg0)) _ (fun _ => const_plus_infinity) p0
  have h1 := allReal_of_compare (m ((c.tc : Thread Cert.KernelIdeal.nD Cert.KernelIdeal.τ).loc Cert.KernelIdeal.main_arg1)) _ (fun _ => const_plus_infinity_bf16) p1
  have h2 := allReal_of_compare (m ((c.tc : Thread Cert.KernelIdeal.nD Cert.KernelIdeal.τ).loc Cert.KernelIdeal.main_arg2)) _ (fun _ => const_plus_infinity_bf16) p2
  have h3 := allReal_of_compare (m ((c.tc : Thread Cert.KernelIdeal.nD Cert.KernelIdeal.τ).loc Cert.KernelIdeal.main_arg3)) _ (fun _ => const_plus_infinity_bf16) p3
  have h4 := allReal_of_compare (m ((c.tc : Thread Cert.KernelIdeal.nD Cert.KernelIdeal.τ).loc Cert.KernelIdeal.main_arg4)) _ (fun _ => const_plus_infinity) p4
  have h5 := allReal_of_compare (m ((c.tc : Thread Cert.KernelIdeal.nD Cert.KernelIdeal.τ).loc Cert.KernelIdeal.main_arg5)) _ (fun _ => const_plus_infinity) p5
  have h6 := allReal_of_compare (m ((c.tc : Thread Cert.KernelIdeal.nD Cert.KernelIdeal.τ).loc Cert.KernelIdeal.main_arg6)) _ (fun _ => const_plus_infinity) p6
  have h7 := allReal_of_compare (m ((c.tc : Thread Cert.KernelIdeal.nD Cert.KernelIdeal.τ).loc Cert.KernelIdeal.main_arg7)) _ (fun _ => const_plus_infinity) p7
  refine (Ref.res_eq m' c).trans ?_
  rw [a1, a2, a3, a4, a5, a6, a7, a8, Ker.array_eq m c h0 h1 h2 h3 h4 h5 h6 h7]
  funext i
  have b2 : (i 2 : ℕ) < 512 := (i 2).isLt
  have ei : i = (ix3 (i 0 : Fin 16) (i 1 : Fin 4096) (i 2 : Fin 512) : Cert.ReferenceIdeal.S16x4096x512.Idx) := by
    funext a
    fin_cases a <;> rfl
  exact (congrArg _ ei).trans (Ref.out_real h1 h2 h3 h4 h5 h6 h7 _
    (m ((c.tc : Thread Cert.KernelIdeal.nD Cert.KernelIdeal.τ).loc Cert.KernelIdeal.main_arg0) (ix2 0 0)) _ _ _)

/-- The feed-forward reference keeps its arguments, and has no semaphores. -/
theorem ffn_reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's result and its reference's are the same array of extended reals. -/
theorem ffn_same_result : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5, a6, a7, a8, a9, a10, a11⟩ := hagree c
  refine (FfnRef.res_eq m' c).trans ?_
  rw [a0, a1, a2, a3, a4, a5, a6, a7, a8, a9, a10, a11, Ffn.array_eq m c]
  funext i
  have ei : i = (ix3 (i 0 : Fin 16) (i 1 : Fin 4096) (i 2 : Fin 1024) : Cert.Reference2Ideal.S16x4096x1024.Idx) := by
    funext a
    fin_cases a <;> rfl
  exact (congrArg _ ei).trans (FfnRef.whole_apply _ _ _ _ _ _ _ _ _ _ _ _ _ _ _)

/-- The projections' reference keeps its arguments, and has no semaphores. -/
theorem proj_reference_frame : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The projection kernel's five results and its reference's are the same arrays of extended reals. -/
theorem proj_same_result : Cert.algebraic_Kernel3Ideal_Reference3Ideal := by
  intro m ρ m' ρ' _ hagree
  refine ⟨_, _, _, _, _, (θ_run Cert.Kernel3Ideal.defs _ _).mono (fun _ h c => (h c).2) (Cert.Kernel3Ideal.Value.run_blocks (F := Ideal) m ρ), ?_⟩
  refine (θ_run Cert.Reference3Ideal.defs _ _).mono (fun _ h c => ⟨(h c).1.trans ?_, (h c).2.1.trans ?_, (h c).2.2.1.trans ?_, (h c).2.2.2.1.trans ?_,
      (h c).2.2.2.2.1.trans ?_, (h c).2.2.2.2.2⟩)
    (Cert.Reference3Ideal.Value.run (F := Ideal) m' ρ')
  all_goals obtain ⟨a0, a1, a2, a3, a4, a5, a6, a7, a8⟩ := hagree c
  · refine (ProjRef.res0_eq m' c).trans ((ProjRef.queries_eq m' c).trans ?_)
    rw [a0, a1, a2, a3, a6, Proj.array11 m c]
  · refine (ProjRef.res1_eq m' c).trans ((ProjRef.keys_eq m' c).trans ?_)
    rw [a0, a1, a2, a3, a7, Proj.array12 m c]
  · refine (ProjRef.values_eq m' c).trans ?_
    rw [a0, a1, a2, a3, Proj.array13 m c]
  · refine (ProjRef.gateGla_eq m' c).trans ?_
    rw [a0, a1, a2, a3, Proj.array14 m c]
  · refine (ProjRef.gateDiff_eq m' c).trans ?_
    rw [a0, a1, a2, a3, Proj.array15 m c]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, fun m ρ _ => Cert.Kernel2.Gen.frame m ρ, fun m ρ _ => Cert.Kernel2Ideal.Gen.frame m ρ,
  ffn_reference_frame, fun m ρ _ => Cert.Kernel3.Gen.frame m ρ, fun m ρ _ => Cert.Kernel3Ideal.Gen.frame m ρ, proj_reference_frame,
  mask_named, same_result, trivial, ffn_same_result, trivial, proj_same_result⟩

end Cert.Proof

end
